-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)) (v6 : (c : Dev Cert.KernelIdeal.nD) → Buf (Elt Ideal) ((c.tc : Thread Cert.KernelIdeal.nD Cert.KernelIdeal.τ).loc Cert.KernelIdeal.main_v7_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_v122) = v4 c
          ∧ r.2.mem ((c.tc : Thread Cert.ReferenceIdeal.nD Cert.ReferenceIdeal.τ).loc Cert.ReferenceIdeal.main_v123) = v5 c
          ∧ r.2.mem ((c.tc : Thread Cert.ReferenceIdeal.nD Cert.ReferenceIdeal.τ).loc Cert.ReferenceIdeal.main_v124) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x256x18x160 : Shape := ⟨4, ![8, 256, 18, 160]⟩
abbrev S18x160x48 : Shape := ⟨3, ![18, 160, 48]⟩
abbrev S18x48 : Shape := ⟨2, ![18, 48]⟩
abbrev S8x18x96x160 : Shape := ⟨4, ![8, 18, 96, 160]⟩
abbrev S8x18x96 : Shape := ⟨3, ![8, 18, 96]⟩
abbrev S_ : Shape := ⟨0, ![]⟩
abbrev S8x256x18 : Shape := ⟨3, ![8, 256, 18]⟩

class Facts : Prop where
  bitsLt_bf16_f32 : FTy.bits .bf16 < FTy.bits .f32
  reducesTo_S8x256x18x160_S8x256x18_d3 : S8x256x18x160.ReducesTo [3] S8x256x18
  h_S_ : 0 < S_.numel
  bcast_S_S8x256x18 : S_.BroadcastsInDim S8x256x18 (![] : Fin 0 → Fin S8x256x18.rank)
  bcast_S_S8x256x18x160 : S_.BroadcastsInDim S8x256x18x160 (![] : Fin 0 → Fin S8x256x18x160.rank)
  bcast_S_S8x18x96x160 : S_.BroadcastsInDim S8x18x96x160 (![] : Fin 0 → Fin S8x18x96x160.rank)
  bcast_S_S8x18x96 : S_.BroadcastsInDim S8x18x96 (![] : Fin 0 → Fin S8x18x96.rank)

variable [Facts]

def fn_part2 {F : FTy → Type} [FloatOps F] (main_v12 : IVec S8x256x18 1) (main_v25 : IVec S8x256x18 1) (main_v29 : IVec S8x256x18x160 1) (main_v32 : IVec S8x18x96x160 1) (main_v33 : FVec F S8x18x96 .f32) (main_v34 : FVec F S8x18x96 .f32) : IVec S8x256x18 1 × IVec S8x256x18 1 × IVec S8x256x18x160 1 × IVec S8x18x96x160 1 × IVec S8x18x96 1 :=
  let main_v35 : IVec S8x18x96 1 := cmpf .ole main_v33 main_v34
  (main_v12, main_v25, main_v29, main_v32, main_v35)

def fn_part1 {F : FTy → Type} [FloatOps F] (main_arg2 : FVec F S8x256x18x160 .bf16) (main_arg9 : FVec F S8x18x96x160 .f32) (main_arg10 : FVec F S8x18x96 .f32) (main_v12 : IVec S8x256x18 1) (main_v15 : FVec F S8x256x18 .f32) (main_v16 : FVec F S8x256x18 .f32) : IVec S8x256x18 1 × IVec S8x256x18 1 × IVec S8x256x18x160 1 × IVec S8x18x96x160 1 × IVec S8x18x96 1 :=
  let main_v17 : IVec S8x256x18 1 := cmpf .oeq main_v15 main_v16
  let main_cst_6 : FVec F S_ .f32 := constant S_ .f32 0x3B124925#32
  let main_v18 : FVec F S8x256x18 .f32 := broadcastInDim S8x256x18 ![] bcast_S_S8x256x18 main_cst_6
  let main_v19 : FVec F S8x256x18 .f32 := mulf main_v15 main_v18
  let main_cst_7 : FVec F S_ .f32 := constant S_ .f32 0x00800000#32
  let main_v20 : FVec F S8x256x18 .f32 := broadcastInDim S8x256x18 ![] bcast_S_S8x256x18 main_cst_7
  let main_v21 : IVec S8x256x18 1 := cmpf .oge main_v19 main_v20
  let main_cst_8 : FVec F S_ .f32 := constant S_ .f32 0x7F7F0000#32
  let main_v22 : FVec F S8x256x18 .f32 := broadcastInDim S8x256x18 ![] bcast_S_S8x256x18 main_cst_8
  let main_v23 : IVec S8x256x18 1 := cmpf .ole main_v15 main_v22
  let main_v24 : IVec S8x256x18 1 := andi main_v21 main_v23
  let main_v25 : IVec S8x256x18 1 := ori main_v17 main_v24
  let main_v26 : FVec F S8x256x18x160 .f32 := (extf .f32 · bitsLt_bf16_f32) main_arg2
  let main_v27 : FVec F S8x256x18x160 .f32 := Host.absf main_v26
  let main_cst_9 : FVec F S_ .f32 := constant S_ .f32 0x7F7F0000#32
  let main_v28 : FVec F S8x256x18x160 .f32 := broadcastInDim S8x256x18x160 ![] bcast_S_S8x256x18x160 main_cst_9
  let main_v29 : IVec S8x256x18x160 1 := cmpf .ole main_v27 main_v28
  let main_v30 : FVec F S8x18x96x160 .f32 := Host.absf main_arg9
  let main_cst_10 : FVec F S_ .f32 := constant S_ .f32 0x7F7FFFFF#32
  let main_v31 : FVec F S8x18x96x160 .f32 := broadcastInDim S8x18x96x160 ![] bcast_S_S8x18x96x160 main_cst_10
  let main_v32 : IVec S8x18x96x160 1 := cmpf .ole main_v30 main_v31
  let main_v33 : FVec F S8x18x96 .f32 := Host.absf main_arg10
  let main_cst_11 : FVec F S_ .f32 := constant S_ .f32 0x7F7FFFFF#32
  let main_v34 : FVec F S8x18x96 .f32 := broadcastInDim S8x18x96 ![] bcast_S_S8x18x96 main_cst_11
  fn_part2 (F := F) main_v12 main_v25 main_v29 main_v32 main_v33 main_v34

def fn {F : FTy → Type} [FloatOps F] (main_arg0 : FVec F S8x256x18x160 .bf16) (main_arg1 : FVec F S8x256x18x160 .bf16) (main_arg2 : FVec F S8x256x18x160 .bf16) (main_arg3 : FVec F S18x160x48 .fp8e4m3) (main_arg4 : FVec F S18x48 .f32) (main_arg5 : FVec F S18x160x48 .fp8e4m3) (main_arg6 : FVec F S18x48 .f32) (main_arg7 : FVec F S18x48 .f32) (main_arg8 : FVec F S18x48 .f32) (main_arg9 : FVec F S8x18x96x160 .f32) (main_arg10 : FVec F S8x18x96 .f32) : IVec S8x256x18 1 × IVec S8x256x18 1 × IVec S8x256x18x160 1 × IVec S8x18x96x160 1 × IVec S8x18x96 1 :=
  let main_v0 : FVec F S8x256x18x160 .bf16 := Host.absf main_arg0
  let main_v1 : FVec F S8x256x18x160 .f32 := (extf .f32 · bitsLt_bf16_f32) main_v0
  let main_cst : FVec F S_ .f32 := constant S_ .f32 0xFF800000#32
  let main_v2 : FVec F S8x256x18 .f32 := (fun x v => Host.reduce FloatOps.maximumf x v reducesTo_S8x256x18x160_S8x256x18_d3 h_S_) main_v1 main_cst
  let main_cst_0 : FVec F S_ .f32 := constant S_ .f32 0x00000000#32
  let main_v3 : FVec F S8x256x18 .f32 := broadcastInDim S8x256x18 ![] bcast_S_S8x256x18 main_cst_0
  let main_v4 : IVec S8x256x18 1 := cmpf .oeq main_v2 main_v3
  let main_cst_1 : FVec F S_ .f32 := constant S_ .f32 0x3B124925#32
  let main_v5 : FVec F S8x256x18 .f32 := broadcastInDim S8x256x18 ![] bcast_S_S8x256x18 main_cst_1
  let main_v6 : FVec F S8x256x18 .f32 := mulf main_v2 main_v5
  let main_cst_2 : FVec F S_ .f32 := constant S_ .f32 0x00800000#32
  let main_v7 : FVec F S8x256x18 .f32 := broadcastInDim S8x256x18 ![] bcast_S_S8x256x18 main_cst_2
  let main_v8 : IVec S8x256x18 1 := cmpf .oge main_v6 main_v7
  let main_cst_3 : FVec F S_ .f32 := constant S_ .f32 0x7F7F0000#32
  let main_v9 : FVec F S8x256x18 .f32 := broadcastInDim S8x256x18 ![] bcast_S_S8x256x18 main_cst_3
  let main_v10 : IVec S8x256x18 1 := cmpf .ole main_v2 main_v9
  let main_v11 : IVec S8x256x18 1 := andi main_v8 main_v10
  let main_v12 : IVec S8x256x18 1 := ori main_v4 main_v11
  let main_v13 : FVec F S8x256x18x160 .bf16 := Host.absf main_arg1
  let main_v14 : FVec F S8x256x18x160 .f32 := (extf .f32 · bitsLt_bf16_f32) main_v13
  let main_cst_4 : FVec F S_ .f32 := constant S_ .f32 0xFF800000#32
  let main_v15 : FVec F S8x256x18 .f32 := (fun x v => Host.reduce FloatOps.maximumf x v reducesTo_S8x256x18x160_S8x256x18_d3 h_S_) main_v14 main_cst_4
  let main_cst_5 : FVec F S_ .f32 := constant S_ .f32 0x00000000#32
  let main_v16 : FVec F S8x256x18 .f32 := broadcastInDim S8x256x18 ![] bcast_S_S8x256x18 main_cst_5
  fn_part1 (F := F) main_arg2 main_arg9 main_arg10 main_v12 main_v15 main_v16
-- ==== Kernel.lean ====
abbrev S8x256x18x160 : Shape := ⟨4, ![8, 256, 18, 160]⟩
abbrev S18x160x48 : Shape := ⟨3, ![18, 160, 48]⟩
abbrev S18x48 : Shape := ⟨2, ![18, 48]⟩
abbrev S8x18x96x160 : Shape := ⟨4, ![8, 18, 96, 160]⟩
abbrev S8x18x96 : Shape := ⟨3, ![8, 18, 96]⟩
abbrev S8x18x160x256 : Shape := ⟨4, ![8, 18, 160, 256]⟩
abbrev S18x48x160 : Shape := ⟨3, ![18, 48, 160]⟩
abbrev S8x18x160x96 : Shape := ⟨4, ![8, 18, 160, 96]⟩
abbrev S18x8x96 : Shape := ⟨3, ![18, 8, 96]⟩
abbrev S18x8x256 : Shape := ⟨3, ![18, 8, 256]⟩
abbrev S8x1x160x256 : Shape := ⟨4, ![8, 1, 160, 256]⟩
abbrev S1x48x160 : Shape := ⟨3, ![1, 48, 160]⟩
abbrev S8x1x160x96 : Shape := ⟨4, ![8, 1, 160, 96]⟩
abbrev S1x8x96 : Shape := ⟨3, ![1, 8, 96]⟩
abbrev S1x8x256 : Shape := ⟨3, ![1, 8, 256]⟩
abbrev S48x160 : Shape := ⟨2, ![48, 160]⟩
abbrev S1x48 : Shape := ⟨2, ![1, 48]⟩
abbrev S8x48 : Shape := ⟨2, ![8, 48]⟩
abbrev S48x8 : Shape := ⟨2, ![48, 8]⟩
abbrev S48x1 : Shape := ⟨2, ![48, 1]⟩
abbrev S1x1x160x256 : Shape := ⟨4, ![1, 1, 160, 256]⟩
abbrev S160x256 : Shape := ⟨2, ![160, 256]⟩
abbrev S16x256 : Shape := ⟨2, ![16, 256]⟩
abbrev S256 : Shape := ⟨1, ![256]⟩
abbrev S1x256 : Shape := ⟨2, ![1, 256]⟩
abbrev S255x256 : Shape := ⟨2, ![255, 256]⟩
abbrev S1x1x256 : Shape := ⟨3, ![1, 1, 256]⟩
abbrev S32x256 : Shape := ⟨2, ![32, 256]⟩
abbrev S48x256 : Shape := ⟨2, ![48, 256]⟩
abbrev S96x256 : Shape := ⟨2, ![96, 256]⟩
abbrev S128x256 : Shape := ⟨2, ![128, 256]⟩
abbrev S256x128 : Shape := ⟨2, ![256, 128]⟩
abbrev S1x1x96 : Shape := ⟨3, ![1, 1, 96]⟩
abbrev S1x96 : Shape := ⟨2, ![1, 96]⟩
abbrev S1x32 : Shape := ⟨2, ![1, 32]⟩
abbrev S1x128 : Shape := ⟨2, ![1, 128]⟩
abbrev S13x128 : Shape := ⟨2, ![13, 128]⟩
abbrev S16x128 : Shape := ⟨2, ![16, 128]⟩
abbrev S272x128 : Shape := ⟨2, ![272, 128]⟩
abbrev S272x256 : Shape := ⟨2, ![272, 256]⟩
abbrev S256x256 : Shape := ⟨2, ![256, 256]⟩
abbrev S8x256 : Shape := ⟨2, ![8, 256]⟩
abbrev S1x1x160x96 : Shape := ⟨4, ![1, 1, 160, 96]⟩
abbrev S160x96 : Shape := ⟨2, ![160, 96]⟩
abbrev S160x32 : Shape := ⟨2, ![160, 32]⟩
abbrev S160x128 : Shape := ⟨2, ![160, 128]⟩
abbrev S160x1152 : Shape := ⟨2, ![160, 1152]⟩
abbrev S1152x256 : Shape := ⟨2, ![1152, 256]⟩
abbrev S176x256 : Shape := ⟨2, ![176, 256]⟩
abbrev S176x128 : Shape := ⟨2, ![176, 128]⟩

abbrev nBuf : Space → Nat
  | .hbm => 25
  | .vmem => 32
  | .smem => 0
  | _ => 0

abbrev bufTy : (tb : Table) → Fin (tcTables nBuf tb) → BufTy
  | .hbm, ⟨0, _⟩ => ⟨S8x256x18x160, .bf16⟩
  | .hbm, ⟨1, _⟩ => ⟨S8x256x18x160, .bf16⟩
  | .hbm, ⟨2, _⟩ => ⟨S8x256x18x160, .bf16⟩
  | .hbm, ⟨3, _⟩ => ⟨S18x160x48, .fp8e4m3⟩
  | .hbm, ⟨4, _⟩ => ⟨S18x48, .f32⟩
  | .hbm, ⟨5, _⟩ => ⟨S18x160x48, .fp8e4m3⟩
  | .hbm, ⟨6, _⟩ => ⟨S18x48, .f32⟩
  | .hbm, ⟨7, _⟩ => ⟨S18x48, .f32⟩
  | .hbm, ⟨8, _⟩ => ⟨S18x48, .f32⟩
  | .hbm, ⟨9, _⟩ => ⟨S8x18x96x160, .f32⟩
  | .hbm, ⟨10, _⟩ => ⟨S8x18x96, .f32⟩
  | .hbm, ⟨11, _⟩ => ⟨S8x18x160x256, .bf16⟩
  | .hbm, ⟨12, _⟩ => ⟨S8x18x160x256, .bf16⟩
  | .hbm, ⟨13, _⟩ => ⟨S8x18x160x256, .bf16⟩
  | .hbm, ⟨14, _⟩ => ⟨S18x48x160, .fp8e4m3⟩
  | .hbm, ⟨15, _⟩ => ⟨S18x48x160, .fp8e4m3⟩
  | .hbm, ⟨16, _⟩ => ⟨S8x18x160x96, .f32⟩
  | .hbm, ⟨17, _⟩ => ⟨S18x8x96, .f32⟩
  | .hbm, ⟨18, _⟩ => ⟨S8x18x160x256, .bf16⟩
  | .hbm, ⟨19, _⟩ => ⟨S8x18x160x96, .f32⟩
  | .hbm, ⟨20, _⟩ => ⟨S18x8x96, .f32⟩
  | .hbm, ⟨21, _⟩ => ⟨S8x18x160x256, .fp8e4m3⟩
  | .hbm, ⟨22, _⟩ => ⟨S18x8x256, .f32⟩
  | .hbm, ⟨23, _⟩ => ⟨S8x18x160x256, .fp8e4m3⟩
  | .hbm, ⟨24, _⟩ => ⟨S18x8x256, .f32⟩
  | .local _ .vmem, ⟨0, _⟩ => ⟨S8x1x160x256, .bf16⟩
  | .local _ .vmem, ⟨1, _⟩ => ⟨S8x1x160x256, .bf16⟩
  | .local _ .vmem, ⟨2, _⟩ => ⟨S8x1x160x256, .bf16⟩
  | .local _ .vmem, ⟨3, _⟩ => ⟨S8x1x160x256, .bf16⟩
  | .local _ .vmem, ⟨4, _⟩ => ⟨S8x1x160x256, .bf16⟩
  | .local _ .vmem, ⟨5, _⟩ => ⟨S8x1x160x256, .bf16⟩
  | .local _ .vmem, ⟨6, _⟩ => ⟨S1x48x160, .fp8e4m3⟩
  | .local _ .vmem, ⟨7, _⟩ => ⟨S1x48x160, .fp8e4m3⟩
  | .local _ .vmem, ⟨8, _⟩ => ⟨S18x48, .f32⟩
  | .local _ .vmem, ⟨9, _⟩ => ⟨S1x48x160, .fp8e4m3⟩
  | .local _ .vmem, ⟨10, _⟩ => ⟨S1x48x160, .fp8e4m3⟩
  | .local _ .vmem, ⟨11, _⟩ => ⟨S18x48, .f32⟩
  | .local _ .vmem, ⟨12, _⟩ => ⟨S18x48, .f32⟩
  | .local _ .vmem, ⟨13, _⟩ => ⟨S18x48, .f32⟩
  | .local _ .vmem, ⟨14, _⟩ => ⟨S8x1x160x96, .f32⟩
  | .local _ .vmem, ⟨15, _⟩ => ⟨S8x1x160x96, .f32⟩
  | .local _ .vmem, ⟨16, _⟩ => ⟨S1x8x96, .f32⟩
  | .local _ .vmem, ⟨17, _⟩ => ⟨S1x8x96, .f32⟩
  | .local _ .vmem, ⟨18, _⟩ => ⟨S8x1x160x256, .bf16⟩
  | .local _ .vmem, ⟨19, _⟩ => ⟨S8x1x160x256, .bf16⟩
  | .local _ .vmem, ⟨20, _⟩ => ⟨S8x1x160x96, .f32⟩
  | .local _ .vmem, ⟨21, _⟩ => ⟨S8x1x160x96, .f32⟩
  | .local _ .vmem, ⟨22, _⟩ => ⟨S1x8x96, .f32⟩
  | .local _ .vmem, ⟨23, _⟩ => ⟨S1x8x96, .f32⟩
  | .local _ .vmem, ⟨24, _⟩ => ⟨S8x1x160x256, .fp8e4m3⟩
  | .local _ .vmem, ⟨25, _⟩ => ⟨S8x1x160x256, .fp8e4m3⟩
  | .local _ .vmem, ⟨26, _⟩ => ⟨S1x8x256, .f32⟩
  | .local _ .vmem, ⟨27, _⟩ => ⟨S1x8x256, .f32⟩
  | .local _ .vmem, ⟨28, _⟩ => ⟨S8x1x160x256, .fp8e4m3⟩
  | .local _ .vmem, ⟨29, _⟩ => ⟨S8x1x160x256, .fp8e4m3⟩
  | .local _ .vmem, ⟨30, _⟩ => ⟨S1x8x256, .f32⟩
  | .local _ .vmem, ⟨31, _⟩ => ⟨S1x8x256, .f32⟩
  | _, _ => ⟨S8x256x18x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev main_v7_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![18], ![false]⟩

def k0_off1 (i : grid0.Coords) : Fin 2 → Nat :=
  let arg0 : BitVec 32 := BitVec.ofNat 32 (i 0).val
  let v4 : Index := Scalar.indexCast arg0
  let c0_5 : Index := 0#32
  ![v4.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x160x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x160x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x160x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x48x160 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S18x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x48x160 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S18x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S18x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S18x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1x160x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x160x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x160x96 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x96 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1x160x256 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1x160x256 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x256x18x160 : Shape := ⟨4, ![8, 256, 18, 160]⟩
abbrev S18x160x48 : Shape := ⟨3, ![18, 160, 48]⟩
abbrev S18x48 : Shape := ⟨2, ![18, 48]⟩
abbrev S8x18x96x160 : Shape := ⟨4, ![8, 18, 96, 160]⟩
abbrev S8x18x96 : Shape := ⟨3, ![8, 18, 96]⟩
abbrev S8x256x18 : Shape := ⟨3, ![8, 256, 18]⟩
abbrev S8x256x18x1 : Shape := ⟨4, ![8, 256, 18, 1]⟩
abbrev S18x48x8x256 : Shape := ⟨4, ![18, 48, 8, 256]⟩
abbrev S8x256x18x48 : Shape := ⟨4, ![8, 256, 18, 48]⟩
abbrev S1x1x18x48 : Shape := ⟨4, ![1, 1, 18, 48]⟩
abbrev S_ : Shape := ⟨0, ![]⟩
abbrev S8x256x18x96 : Shape := ⟨4, ![8, 256, 18, 96]⟩
abbrev S8x4x64x18x96 : Shape := ⟨5, ![8, 4, 64, 18, 96]⟩
abbrev S8x4x64x18x160 : Shape := ⟨5, ![8, 4, 64, 18, 160]⟩
abbrev S64x64 : Shape := ⟨2, ![64, 64]⟩
abbrev S8x4x18x64x64 : Shape := ⟨5, ![8, 4, 18, 64, 64]⟩
abbrev S8x4x18x160x64 : Shape := ⟨5, ![8, 4, 18, 160, 64]⟩
abbrev S8x4x18x64 : Shape := ⟨4, ![8, 4, 18, 64]⟩
abbrev S8x4x64x18 : Shape := ⟨4, ![8, 4, 64, 18]⟩
abbrev S8x4x18x96x160 : Shape := ⟨5, ![8, 4, 18, 96, 160]⟩
abbrev S8x4x18x96 : Shape := ⟨4, ![8, 4, 18, 96]⟩
abbrev S8x1x18x96x160 : Shape := ⟨5, ![8, 1, 18, 96, 160]⟩
abbrev S8x1x18x96 : Shape := ⟨4, ![8, 1, 18, 96]⟩
abbrev S8x4x64x18x1 : Shape := ⟨5, ![8, 4, 64, 18, 1]⟩
abbrev S8x18x160x256 : Shape := ⟨4, ![8, 18, 160, 256]⟩
abbrev S8x18x160x96 : Shape := ⟨4, ![8, 18, 160, 96]⟩
abbrev S18x8x96 : Shape := ⟨3, ![18, 8, 96]⟩
abbrev S18x8x256 : Shape := ⟨3, ![18, 8, 256]⟩

abbrev nBuf : Space → Nat
  | .hbm => 175
  | .vmem => 12
  | .smem => 0
  | _ => 0

abbrev hbmTy0_0 (i : Nat) : BufTy := match i % 128 with
  | 0 => ⟨S8x256x18x160, .bf16⟩
  | 1 => ⟨S8x256x18x160, .bf16⟩
  | 2 => ⟨S8x256x18x160, .bf16⟩
  | 3 => ⟨S18x160x48, .fp8e4m3⟩
  | 4 => ⟨S18x48, .f32⟩
  | 5 => ⟨S18x160x48, .fp8e4m3⟩
  | 6 => ⟨S18x48, .f32⟩
  | 7 => ⟨S18x48, .f32⟩
  | 8 => ⟨S18x48, .f32⟩
  | 9 => ⟨S8x18x96x160, .f32⟩
  | 10 => ⟨S8x18x96, .f32⟩
  | 11 => ⟨S8x256x18x160, .fp8e4m3⟩
  | 12 => ⟨S8x256x18, .f32⟩
  | 13 => ⟨S8x256x18x160, .fp8e4m3⟩
  | 14 => ⟨S8x256x18, .f32⟩
  | 15 => ⟨S8x256x18x160, .bf16⟩
  | 16 => ⟨S8x256x18x160, .bf16⟩
  | 17 => ⟨S18x160x48, .bf16⟩
  | 18 => ⟨S18x160x48, .bf16⟩
  | 19 => ⟨S18x48x8x256, .f32⟩
  | 20 => ⟨S8x256x18x48, .f32⟩
  | 21 => ⟨S8x256x18x1, .f32⟩
  | 22 => ⟨S8x256x18x48, .f32⟩
  | 23 => ⟨S8x256x18x48, .f32⟩
  | 24 => ⟨S1x1x18x48, .f32⟩
  | 25 => ⟨S8x256x18x48, .f32⟩
  | 26 => ⟨S8x256x18x48, .f32⟩
  | 27 => ⟨S1x1x18x48, .f32⟩
  | 28 => ⟨S8x256x18x48, .f32⟩
  | 29 => ⟨S8x256x18x48, .f32⟩
  | 30 => ⟨S_, .f32⟩
  | 31 => ⟨S8x256x18, .f32⟩
  | 32 => ⟨S8x256x18x1, .f32⟩
  | 33 => ⟨S8x256x18x48, .f32⟩
  | 34 => ⟨S8x256x18x48, .f32⟩
  | 35 => ⟨S8x256x18x48, .f32⟩
  | 36 => ⟨S_, .f32⟩
  | 37 => ⟨S8x256x18, .f32⟩
  | 38 => ⟨S8x256x18x1, .f32⟩
  | 39 => ⟨S_, .f32⟩
  | 40 => ⟨S8x256x18x1, .f32⟩
  | 41 => ⟨S8x256x18x1, .f32⟩
  | 42 => ⟨S8x256x18x48, .f32⟩
  | 43 => ⟨S8x256x18x48, .f32⟩
  | 44 => ⟨S8x256x18x48, .f32⟩
  | 45 => ⟨S_, .f32⟩
  | 46 => ⟨S8x256x18, .f32⟩
  | 47 => ⟨S8x256x18x1, .f32⟩
  | 48 => ⟨S8x256x18x48, .f32⟩
  | 49 => ⟨S8x256x18x48, .f32⟩
  | 50 => ⟨S8x256x18x48, .f32⟩
  | 51 => ⟨S_, .f32⟩
  | 52 => ⟨S8x256x18, .f32⟩
  | 53 => ⟨S8x256x18x1, .f32⟩
  | 54 => ⟨S_, .f32⟩
  | 55 => ⟨S8x256x18x1, .f32⟩
  | 56 => ⟨S8x256x18x1, .f32⟩
  | 57 => ⟨S8x256x18x48, .f32⟩
  | 58 => ⟨S8x256x18x48, .f32⟩
  | 59 => ⟨S8x256x18x96, .f32⟩
  | 60 => ⟨S8x256x18x96, .bf16⟩
  | 61 => ⟨S18x48x8x256, .f32⟩
  | 62 => ⟨S8x256x18x48, .f32⟩
  | 63 => ⟨S8x256x18x1, .f32⟩
  | 64 => ⟨S8x256x18x48, .f32⟩
  | 65 => ⟨S8x256x18x48, .f32⟩
  | 66 => ⟨S1x1x18x48, .f32⟩
  | 67 => ⟨S8x256x18x48, .f32⟩
  | 68 => ⟨S8x256x18x48, .f32⟩
  | 69 => ⟨S1x1x18x48, .f32⟩
  | 70 => ⟨S8x256x18x48, .f32⟩
  | 71 => ⟨S8x256x18x48, .f32⟩
  | 72 => ⟨S_, .f32⟩
  | 73 => ⟨S8x256x18, .f32⟩
  | 74 => ⟨S8x256x18x1, .f32⟩
  | 75 => ⟨S8x256x18x48, .f32⟩
  | 76 => ⟨S8x256x18x48, .f32⟩
  | 77 => ⟨S8x256x18x48, .f32⟩
  | 78 => ⟨S_, .f32⟩
  | 79 => ⟨S8x256x18, .f32⟩
  | 80 => ⟨S8x256x18x1, .f32⟩
  | 81 => ⟨S_, .f32⟩
  | 82 => ⟨S8x256x18x1, .f32⟩
  | 83 => ⟨S8x256x18x1, .f32⟩
  | 84 => ⟨S8x256x18x48, .f32⟩
  | 85 => ⟨S8x256x18x48, .f32⟩
  | 86 => ⟨S8x256x18x48, .f32⟩
  | 87 => ⟨S_, .f32⟩
  | 88 => ⟨S8x256x18, .f32⟩
  | 89 => ⟨S8x256x18x1, .f32⟩
  | 90 => ⟨S8x256x18x48, .f32⟩
  | 91 => ⟨S8x256x18x48, .f32⟩
  | 92 => ⟨S8x256x18x48, .f32⟩
  | 93 => ⟨S_, .f32⟩
  | 94 => ⟨S8x256x18, .f32⟩
  | 95 => ⟨S8x256x18x1, .f32⟩
  | 96 => ⟨S_, .f32⟩
  | 97 => ⟨S8x256x18x1, .f32⟩
  | 98 => ⟨S8x256x18x1, .f32⟩
  | 99 => ⟨S8x256x18x48, .f32⟩
  | 100 => ⟨S8x256x18x48, .f32⟩
  | 101 => ⟨S8x256x18x96, .f32⟩
  | 102 => ⟨S8x256x18x96, .bf16⟩
  | 103 => ⟨S8x4x64x18x96, .bf16⟩
  | 104 => ⟨S8x4x64x18x96, .bf16⟩
  | 105 => ⟨S8x4x64x18x160, .bf16⟩
  | 106 => ⟨S_, .i1⟩
  | 107 => ⟨S64x64, .i1⟩
  | 108 => ⟨S64x64, .i32⟩
  | 109 => ⟨S_, .i32⟩
  | 110 => ⟨S64x64, .i32⟩
  | 111 => ⟨S64x64, .i32⟩
  | 112 => ⟨S64x64, .i32⟩
  | 113 => ⟨S64x64, .i1⟩
  | 114 => ⟨S_, .i1⟩
  | 115 => ⟨S64x64, .i1⟩
  | 116 => ⟨S64x64, .i1⟩
  | 117 => ⟨S8x4x18x64x64, .f32⟩
  | 118 => ⟨S_, .f32⟩
  | 119 => ⟨S_, .f32⟩
  | 120 => ⟨S8x4x18x64x64, .i1⟩
  | 121 => ⟨S8x4x18x64x64, .f32⟩
  | 122 => ⟨S8x4x18x64x64, .f32⟩
  | 123 => ⟨S8x4x18x64x64, .bf16⟩
  | 124 => ⟨S8x4x18x160x64, .f32⟩
  | 125 => ⟨S8x4x64x18x160, .f32⟩
  | 126 => ⟨S_, .f32⟩
  | 127 => ⟨S8x4x18x64, .f32⟩
  | _ => ⟨S8x256x18x160, .bf16⟩

abbrev hbmTy0_1 (i : Nat) : BufTy := match i % 128 with
  | 0 => ⟨S8x4x64x18, .f32⟩
  | 1 => ⟨S8x4x18x96x160, .f32⟩
  | 2 => ⟨S8x4x64x18x96, .f32⟩
  | 3 => ⟨S_, .f32⟩
  | 4 => ⟨S8x4x18x96, .f32⟩
  | 5 => ⟨S_, .f32⟩
  | 6 => ⟨S_, .f32⟩
  | 7 => ⟨S8x4x18x96x160, .f32⟩
  | 8 => ⟨S_, .f32⟩
  | 9 => ⟨S_, .f32⟩
  | 10 => ⟨S8x4x18x96, .f32⟩
  | 11 => ⟨S8x1x18x96x160, .f32⟩
  | 12 => ⟨S8x4x18x96x160, .f32⟩
  | 13 => ⟨S8x4x18x96x160, .f32⟩
  | 14 => ⟨S8x4x18x96x160, .f32⟩
  | 15 => ⟨S8x1x18x96, .f32⟩
  | 16 => ⟨S8x4x18x96, .f32⟩
  | 17 => ⟨S8x4x18x96, .f32⟩
  | 18 => ⟨S8x4x18x96, .f32⟩
  | 19 => ⟨S8x4x64x18x96, .f32⟩
  | 20 => ⟨S8x4x18x160x64, .f32⟩
  | 21 => ⟨S8x4x64x18x160, .f32⟩
  | 22 => ⟨S8x4x18x64, .f32⟩
  | 23 => ⟨S8x4x64x18, .f32⟩
  | 24 => ⟨S8x4x64x18x160, .f32⟩
  | 25 => ⟨S8x4x64x18, .f32⟩
  | 26 => ⟨S_, .f32⟩
  | 27 => ⟨S8x4x64x18, .f32⟩
  | 28 => ⟨S8x4x64x18, .f32⟩
  | 29 => ⟨S8x4x64x18x1, .f32⟩
  | 30 => ⟨S8x4x64x18x160, .f32⟩
  | 31 => ⟨S8x4x64x18x160, .f32⟩
  | 32 => ⟨S8x256x18x160, .f32⟩
  | 33 => ⟨S8x256x18x160, .bf16⟩
  | 34 => ⟨S8x1x18x96x160, .f32⟩
  | 35 => ⟨S8x18x96x160, .f32⟩
  | 36 => ⟨S8x18x96x160, .f32⟩
  | 37 => ⟨S8x1x18x96, .f32⟩
  | 38 => ⟨S8x18x96, .f32⟩
  | 39 => ⟨S8x18x96, .f32⟩
  | 40 => ⟨S8x18x160x256, .bf16⟩
  | 41 => ⟨S8x18x160x96, .f32⟩
  | 42 => ⟨S18x8x96, .f32⟩
  | 43 => ⟨S8x18x160x256, .fp8e4m3⟩
  | 44 => ⟨S18x8x256, .f32⟩
  | 45 => ⟨S8x18x160x256, .fp8e4m3⟩
  | 46 => ⟨S18x8x256, .f32⟩
  | _ => ⟨S8x256x18x160, .bf16⟩

abbrev hbmTy (i : Nat) : BufTy := match i / 128 with
  | 0 => hbmTy0_0 i
  | 1 => hbmTy0_1 i
  | _ => ⟨S8x256x18x160, .bf16⟩

abbrev bufTy : (tb : Table) → Fin (tcTables nBuf tb) → BufTy
  | .hbm, ⟨i, _⟩ => hbmTy i
  | .local _ .vmem, ⟨0, _⟩ => ⟨S8x256x18x160, .bf16⟩
  | .local _ .vmem, ⟨1, _⟩ => ⟨S8x256x18x160, .bf16⟩
  | .local _ .vmem, ⟨2, _⟩ => ⟨S18x160x48, .fp8e4m3⟩
  | .local _ .vmem, ⟨3, _⟩ => ⟨S18x160x48, .fp8e4m3⟩
  | .local _ .vmem, ⟨4, _⟩ => ⟨S8x256x18x160, .fp8e4m3⟩
  | .local _ .vmem, ⟨5, _⟩ => ⟨S8x256x18, .f32⟩
  | .local _ .vmem, ⟨6, _⟩ => ⟨S8x256x18x160, .fp8e4m3⟩
  | .local _ .vmem, ⟨7, _⟩ => ⟨S8x256x18, .f32⟩
  | .local _ .vmem, ⟨8, _⟩ => ⟨S8x256x18x160, .bf16⟩
  | .local _ .vmem, ⟨9, _⟩ => ⟨S8x256x18x160, .bf16⟩
  | .local _ .vmem, ⟨10, _⟩ => ⟨S18x160x48, .bf16⟩
  | .local _ .vmem, ⟨11, _⟩ => ⟨S18x160x48, .bf16⟩
  | _, _ => ⟨S8x256x18x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_8 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_9 : Ref sig .tc := ⟨.hbm, 93, rfl⟩
abbrev main_v65 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c : Ref sig .tc := ⟨.hbm, 106, rfl⟩
abbrev main_v76 : Ref sig .tc := ⟨.hbm, 107, rfl⟩
abbrev main_call0_v0 : Ref sig .tc := ⟨.hbm, 108, rfl⟩
abbrev main_call0_c : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_c_0 : Ref sig .tc := ⟨.hbm, 114, rfl⟩
abbrev main_call0_v5 : Ref sig .tc := ⟨.hbm, 115, rfl⟩
abbrev main_v77 : Ref sig .tc := ⟨.hbm, 116, rfl⟩
abbrev main_v78 : Ref sig .tc := ⟨.hbm, 117, rfl⟩
abbrev main_cst_11 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_12 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_13 : Ref sig .tc := ⟨.hbm, 131, rfl⟩
abbrev main_v87 : Ref sig .tc := ⟨.hbm, 132, rfl⟩
abbrev main_call2_cst : Ref sig .tc := ⟨.hbm, 133, rfl⟩
abbrev main_call2_v0 : Ref sig .tc := ⟨.hbm, 134, rfl⟩
abbrev main_v88 : Ref sig .tc := ⟨.hbm, 135, rfl⟩
abbrev main_call3_cst : Ref sig .tc := ⟨.hbm, 136, rfl⟩
abbrev main_call3_v0 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_14 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x256x18x160 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256x18x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18x160x48 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x160x48 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x256x18x160 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x256x18 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x256x18x160 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x256x18 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x256x18x160 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x256x18x160 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S18x160x48 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S18x160x48 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Quant.lean ====
/- The row quantiser: scalar facts about the power of two that scales a row. -/
module

public import Idealize.ShloMosaic.PureOps.Ideal
public import Idealize.ShloMosaic.PureOps.Ideal.Laws
public import Idealize.ShloMosaic.Lib.Pointwise

@[expose] public section

noncomputable section

namespace Hedgehog

open Idealize.ShloMosaic

/-- The word whose exponent field is `k` and whose other fields are zero denotes `2 ^ (k - 127)`. -/
theorem ofBits_field (k : Nat) (h1 : 1 ≤ k) (h2 : k ≤ 254) :
    Ideal.ofBits .f32 (BitVec.ofNat 32 k <<< 23) = (((2 : ℝ) ^ ((k : ℤ) - 127) : ℝ) : EReal) := by
  have hb : (BitVec.ofNat 32 k <<< 23 : BitVec 32).toNat = k * 8388608 := by
    simp [BitVec.toNat_shiftLeft, Nat.shiftLeft_eq]; omega
  have e1 : ((BitVec.ofNat 32 k <<< 23 : BitVec 32).extractLsb' 31 1 == 1#1) = false := by
    rw [beq_eq_false_iff_ne]; intro h
    have := congrArg BitVec.toNat h
    rw [BitVec.extractLsb'_toNat, hb, Nat.shiftRight_eq_div_pow] at this
    simp at this; omega
  have e2 : ((BitVec.ofNat 32 k <<< 23 : BitVec 32).extractLsb' 23 8).toNat = k := by
    rw [BitVec.extractLsb'_toNat, hb, Nat.shiftRight_eq_div_pow]; omega
  have e3 : ((BitVec.ofNat 32 k <<< 23 : BitVec 32).extractLsb' 0 23).toNat = 0 := by
    rw [BitVec.extractLsb'_toNat, hb, Nat.shiftRight_eq_div_pow]; omega
  show Ideal.ieee 8 23 _ = _
  unfold Ideal.ieee
  simp only [e1, e2, e3]
  rw [if_neg (show ¬ k = 2 ^ 8 - 1 by norm_num; omega), if_neg (show ¬ k = 0 by omega)]
  refine congrArg Real.toEReal ?_
  have hk : ((k : ℤ) - (2 ^ (8 - 1) - 1) - (23 : ℕ)) = ((k : ℤ) - 127) - 23 := by norm_num
  rw [hk, zpow_sub₀ (by norm_num : (2 : ℝ) ≠ 0)]
  norm_num
  ring

theorem ofBits_inf : Ideal.ofBits .f32 (BitVec.ofNat 32 255 <<< 23) = ⊤ := by
  simp [Ideal.ofBits, Ideal.ieee]

/-- The reciprocal of 448 as the programs round it. -/
abbrev c448 : EReal := Ideal.ofBits .f32 0x3B124925#32

theorem c448_real : ∃ r : ℝ, c448 = (r : EReal) ∧ 0 < r ∧ r ≤ 1 / 256 := by
  refine ⟨_, rfl, ?_, ?_⟩ <;> simp <;> norm_num

theorem two_real : Ideal.ofBits .f32 0x40000000#32 = ((2 : ℝ) : EReal) :=
  (ofBits_field 128 (by norm_num) (by norm_num)).trans (by norm_num)

theorem tiny_real : Ideal.ofBits .f32 0x00800000#32 = (((2 : ℝ) ^ (-126 : ℤ) : ℝ) : EReal) :=
  ofBits_field 1 le_rfl (by norm_num)

theorem bf16_max_real : ∃ r : ℝ, Ideal.ofBits .f32 0x7F7F0000#32 = (r : EReal) ∧ r ≤ 2 ^ 128 := by
  refine ⟨_, rfl, ?_⟩; simp; norm_num

theorem f32_max_real : ∃ r : ℝ, Ideal.ofBits .f32 0x7F7FFFFF#32 = (r : EReal) := ⟨_, rfl⟩

/-- A word that is one where the value reaches the power of two, zero elsewhere. -/
def reach (x : EReal) (k : Nat) : BitVec 32 :=
  if Ideal.ofBits .f32 (BitVec.ofNat 32 k <<< 23) ≤ x then 1#32 else 0#32

/-- How many of the fields `1 … 255` have a power of two that `x` reaches. -/
def field (x : EReal) : BitVec 32 := Finset.fold IntOp.addi 0#32 (fun k : Fin 255 => reach x (k.val + 1)) Finset.univ

/-- Words that are one or zero add up to how many are one. -/
theorem fold_count {ι : Type} [DecidableEq ι] (s : Finset ι) (p : ι → Prop) [DecidablePred p] :
    Finset.fold IntOp.addi 0#32 (fun k => if p k then 1#32 else 0#32) s = BitVec.ofNat 32 (s.filter p).card := by
  induction s using Finset.induction_on with
  | empty => rfl
  | insert a s ha ih =>
    rw [Finset.fold_insert ha, ih, Finset.filter_insert]
    by_cases hp : p a
    · rw [if_pos hp, if_pos hp, Finset.card_insert_of_notMem (by simp [ha])]
      apply BitVec.eq_of_toNat_eq
      show (1#32 + BitVec.ofNat 32 _).toNat = _
      simp [Nat.add_comm]
    · rw [if_neg hp, if_neg hp]
      show (0#32 + BitVec.ofNat 32 _) = _
      simp

theorem field_eq (x : EReal) (N : Nat) (hN : N ≤ 255) (h : ∀ k, 1 ≤ k → k ≤ 255 → (Ideal.ofBits .f32 (BitVec.ofNat 32 k <<< 23) ≤ x ↔ k ≤ N)) :
    field x = BitVec.ofNat 32 N := by
  unfold field
  have : ∀ k : Fin 255, reach x (k.val + 1) = if k.val < N then 1#32 else 0#32 := by
    intro k; unfold reach; have hk := k.isLt
    by_cases hkN : k.val < N
    · rw [if_pos ((h _ (by omega) (by omega)).2 (by omega)), if_pos hkN]
    · rw [if_neg (fun h' => hkN (by have := (h _ (by omega) (by omega)).1 h'; omega)), if_neg hkN]
  simp only [this]
  rw [fold_count]
  have hc : (Finset.univ.filter fun k : Fin 255 => k.val < N).card = N := by
    rw [Fin.card_filter_val_lt]; omega
  rw [hc]

/-- The biased exponent the kernel scales with: field `126` (the scale one) where the field is `0` or `255`. -/
def biased (x : EReal) : BitVec 32 := if field x = 0#32 ∨ field x = 255#32 then 126#32 else field x

/-- The kernel's scale and its inverse. -/
def scaleK (x : EReal) : EReal := Ideal.ofBits .f32 ((biased x + 1#32) <<< 23)
def invK (x : EReal) : EReal := Ideal.ofBits .f32 ((253#32 - biased x) <<< 23)

/-- The reference's exponent of a row whose largest magnitude is `a`. -/
def expR (a : EReal) : EReal :=
  if a = 0 then 0 else Ideal.liftRound Int.floor (Ideal.div (Ideal.log (a * c448)) (Ideal.log (Ideal.ofBits .f32 0x40000000#32))) + 1

/-- What the claim needs of the largest magnitude of a row. -/
def Scalable (a : EReal) : Prop :=
  a = 0 ∨ (Ideal.ofBits .f32 0x00800000#32 ≤ a * c448 ∧ a ≤ Ideal.ofBits .f32 0x7F7F0000#32)

theorem Scalable.real {a : EReal} (h : Scalable a) : ∃ r : ℝ, a = r := by
  rcases h with rfl | ⟨h1, h2⟩
  · exact ⟨0, rfl⟩
  · obtain ⟨c, hc, hc0, -⟩ := c448_real
    obtain ⟨M, hM, -⟩ := bf16_max_real
    induction a with
    | bot =>
      rw [hc, EReal.bot_mul_coe_of_pos hc0, tiny_real] at h1
      exact absurd h1 (by simp)
    | top => rw [hM] at h2; exact absurd h2 (by simp)
    | coe r => exact ⟨r, rfl⟩

/-- A scalable row's exponent: the kernel's words denote the reference's powers of two. -/
theorem scale_eq {a : EReal} (h : Scalable a) :
    ∃ e : ℤ, expR a = ((e : ℝ) : EReal) ∧ scaleK (a * c448) = (((2 : ℝ) ^ e : ℝ) : EReal)
      ∧ invK (a * c448) = (((2 : ℝ) ^ (-e) : ℝ) : EReal) := by
  obtain ⟨c, hc, hc0, hc1⟩ := c448_real
  obtain ⟨r, hr⟩ := h.real
  rcases h with h0 | ⟨h1, h2⟩
  · refine ⟨0, ?_, ?_, ?_⟩
    · simp [expR, h0]
    all_goals
      have hf : field (a * c448) = 0#32 := by
        rw [field_eq _ 0 (by norm_num)]
        intro k hk1 hk2
        rw [h0, zero_mul]
        refine ⟨fun h => ?_, fun h => by omega⟩
        exfalso
        rcases Nat.lt_or_ge k 255 with hk | hk
        · rw [ofBits_field k hk1 (by omega)] at h
          have : ((2 : ℝ) ^ ((k : ℤ) - 127)) ≤ 0 := by exact_mod_cast h
          exact absurd this (not_le.2 (by positivity))
        · obtain rfl : k = 255 := by omega
          rw [ofBits_inf] at h; exact absurd h (by simp)
      have hb : biased (a * c448) = 126#32 := by simp [biased, hf]
    · unfold scaleK; rw [hb]; exact (ofBits_field 127 (by norm_num) (by norm_num)).trans (by norm_num)
    · unfold invK; rw [hb]; exact (ofBits_field 127 (by norm_num) (by norm_num)).trans (by norm_num)
  · obtain ⟨M, hM, hM1⟩ := bf16_max_real
    rw [tiny_real, hr, hc, ← EReal.coe_mul] at h1
    rw [hM, hr] at h2
    have h1' : (2 : ℝ) ^ (-126 : ℤ) ≤ r * c := by exact_mod_cast h1
    have h2' : r ≤ M := by exact_mod_cast h2
    set x := r * c with hx
    have hx0 : 0 < x := lt_of_lt_of_le (by positivity) h1'
    have hr0 : 0 < r := by by_contra hneg; have := mul_nonpos_of_nonpos_of_nonneg (not_lt.1 hneg) hc0.le; linarith
    have hx1 : x ≤ 2 ^ (120 : ℤ) := by
      calc x ≤ 2 ^ 128 * (1 / 256) := by
            apply mul_le_mul (h2'.trans hM1) hc1 hc0.le (by positivity)
        _ = 2 ^ (120 : ℤ) := by norm_num
    set n : ℤ := ⌊Real.log x / Real.log 2⌋ with hn
    have hl2 : 0 < Real.log 2 := Real.log_pos (by norm_num)
    have key : ∀ m : ℤ, (2 : ℝ) ^ m ≤ x ↔ m ≤ n := by
      intro m
      rw [hn, Int.le_floor, le_div_iff₀ hl2, ← Real.log_zpow, Real.log_le_log_iff (by positivity) hx0]
    have hn1 : -126 ≤ n := (key _).1 h1'
    have hn2 : n ≤ 120 := by
      have h3 : (2 : ℝ) ^ n ≤ 2 ^ (120 : ℤ) := ((key n).2 le_rfl).trans hx1
      exact (zpow_le_zpow_iff_right₀ (by norm_num)).1 h3
    obtain ⟨N, hN⟩ : ∃ N : Nat, (N : ℤ) = n + 127 := ⟨(n + 127).toNat, by omega⟩
    have hax : a * c448 = (x : EReal) := by rw [hr, hc, hx, EReal.coe_mul]
    have hf : field (a * c448) = BitVec.ofNat 32 N := by
      refine field_eq _ N (by omega) ?_
      intro k hk1 hk2
      rw [hax]
      rcases Nat.lt_or_ge k 255 with hk | hk
      · rw [ofBits_field k hk1 (by omega), EReal.coe_le_coe_iff, key]; omega
      · obtain rfl : k = 255 := by omega
        rw [ofBits_inf]; simp; omega
    have hb : biased (a * c448) = BitVec.ofNat 32 N := by
      unfold biased
      rw [hf, if_neg]
      rintro (h | h) <;> · have := congrArg BitVec.toNat h; simp at this; omega
    refine ⟨n + 1, ?_, ?_, ?_⟩
    · unfold expR
      rw [if_neg (by rw [hr]; exact_mod_cast hr0.ne'), hax, two_real]
      have hlx : Ideal.log ((x : ℝ) : EReal) = ((Real.log x : ℝ) : EReal) := by
        show (if x ≤ 0 then (⊥ : EReal) else _) = _
        rw [if_neg (not_le.2 hx0)]
      have hl : Ideal.log ((2 : ℝ) : EReal) = ((Real.log 2 : ℝ) : EReal) := by
        show (if (2 : ℝ) ≤ 0 then (⊥ : EReal) else _) = _
        rw [if_neg (by norm_num)]
      rw [hlx, hl]
      have hd : Ideal.div ((Real.log x : ℝ) : EReal) ((Real.log 2 : ℝ) : EReal) = ((Real.log x / Real.log 2 : ℝ) : EReal) := by
        unfold Ideal.div
        rw [if_neg (by exact_mod_cast hl2.ne'), ← EReal.coe_inv, ← EReal.coe_mul, div_eq_mul_inv]
      rw [hd, Ideal.liftRound_coe, ← hn]
      push_cast; rfl
    · unfold scaleK; rw [hb]
      have : (BitVec.ofNat 32 N + 1#32) = BitVec.ofNat 32 (N + 1) := by
        apply BitVec.eq_of_toNat_eq; simp
      rw [this, ofBits_field _ (by omega) (by omega)]
      rw [show ((N + 1 : ℕ) : ℤ) - 127 = n + 1 by push_cast; omega]
    · unfold invK; rw [hb]
      have : (253#32 - BitVec.ofNat 32 N) = BitVec.ofNat 32 (253 - N) := by
        apply BitVec.eq_of_toNat_eq; simp; omega
      rw [this, ofBits_field _ (by omega) (by omega)]
      rw [show ((253 - N : ℕ) : ℤ) - 127 = -(n + 1) by omega]

theorem exp2_int (e : ℤ) : Ideal.exp2 ((e : ℝ) : EReal) = (((2 : ℝ) ^ e : ℝ) : EReal) := by
  show ((Real.rpow 2 (e : ℝ) : ℝ) : EReal) = _
  congr 1
  exact Real.rpow_intCast 2 e

/-- The kernel's scale is the reference's. -/
theorem scaleK_eq {a : EReal} (h : Scalable a) : scaleK (a * c448) = Ideal.exp2 (expR a) := by
  obtain ⟨e, h1, h2, -⟩ := scale_eq h
  rw [h1, h2, exp2_int]

/-- The kernel's inverse scale is the reference's. -/
theorem invK_eq {a : EReal} (h : Scalable a) : invK (a * c448) = Ideal.exp2 (0 - expR a) := by
  obtain ⟨e, h1, -, h3⟩ := scale_eq h
  have : (0 : EReal) - ((e : ℝ) : EReal) = (((-e : ℤ) : ℝ) : EReal) := by push_cast; simp
  rw [h1, h3, this, exp2_int]

end Hedgehog
-- ==== Proof.Feat.lean ====
/- The feature map: a softmax of the logits and one of their negatives, in powers of two and in exponentials. -/
module

public import Idealize.ShloMosaic.PureOps.Ideal
public import Idealize.ShloMosaic.PureOps.Ideal.Laws
public import Idealize.ShloMosaic.Lib.Pointwise

@[expose] public section

noncomputable section

namespace Hedgehog

open Idealize.ShloMosaic

theorem ofBits_ninf : Ideal.ofBits .f32 0xFF800000#32 = ⊥ := by simp [Ideal.ofBits, Ideal.ieee]
theorem ofBits_pinf : Ideal.ofBits .f32 0x7F800000#32 = ⊤ := by simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The base-two logarithm of `e`, which scales the logits. -/
abbrev c2 : EReal := (((Real.log 2)⁻¹ : ℝ) : EReal)

theorem c2_pos : (0 : ℝ) < (Real.log 2)⁻¹ := inv_pos.2 (Real.log_pos (by norm_num))

theorem exp2_mul_c2 (x : EReal) : Ideal.exp2 (x * c2) = Ideal.exp x := by
  have hc := c2_pos
  induction x with
  | bot => rw [EReal.bot_mul_coe_of_pos hc]; rfl
  | top => rw [EReal.top_mul_coe_of_pos hc]; rfl
  | coe r =>
    rw [← EReal.coe_mul]
    show ((Real.rpow 2 _ : ℝ) : EReal) = ((Real.exp r : ℝ) : EReal)
    congr 1
    have : Real.rpow 2 (r * (Real.log 2)⁻¹) = Real.exp (Real.log 2 * (r * (Real.log 2)⁻¹)) :=
      Real.rpow_def_of_pos (by norm_num) _
    rw [this]
    congr 1
    have h2 : Real.log 2 ≠ 0 := (Real.log_pos (by norm_num)).ne'
    field_simp

theorem sub_mul_c2 (x y : EReal) : x * c2 - y * c2 = (x - y) * c2 := by
  have hc := c2_pos
  induction x <;> induction y <;>
    simp [EReal.bot_mul_coe_of_pos hc, EReal.top_mul_coe_of_pos hc, ← EReal.coe_mul, ← EReal.coe_sub, sub_mul]

theorem mul_c2_mono : Monotone fun x : EReal => x * c2 := by
  intro x y h
  have hc := c2_pos
  exact mul_le_mul_of_nonneg_right h (EReal.coe_nonneg.2 hc.le)

theorem add_mul_c2 (x y : EReal) : x * c2 + y * c2 = (x + y) * c2 :=
  (EReal.right_distrib_of_nonneg_of_ne_top (EReal.coe_nonneg.2 c2_pos.le) (EReal.coe_ne_top _) x y).symm

/-- The largest and the least of a family. -/
abbrev top {n : Nat} (L : Fin n → EReal) : EReal := Finset.fold max ⊥ L Finset.univ
abbrev low {n : Nat} (L : Fin n → EReal) : EReal := Finset.fold min ⊤ L Finset.univ

theorem top_eq_sup {n : Nat} (L : Fin n → EReal) : top L = Finset.univ.sup L := rfl
theorem low_eq_inf {n : Nat} (L : Fin n → EReal) : low L = Finset.univ.inf L := rfl

theorem top_mul_c2 {n : Nat} (L : Fin n → EReal) : top (fun f => L f * c2) = top L * c2 := by
  rw [top_eq_sup, top_eq_sup]
  exact (Finset.comp_sup_eq_sup_comp_of_is_total (s := Finset.univ) (f := L) (fun x : EReal => x * c2) mul_c2_mono
    (by exact EReal.bot_mul_coe_of_pos c2_pos)).symm

theorem low_mul_c2 {n : Nat} (L : Fin n → EReal) : low (fun f => L f * c2) = low L * c2 := by
  rw [low_eq_inf, low_eq_inf]
  exact (Finset.comp_inf_eq_inf_comp_of_is_total (s := Finset.univ) (f := L) (fun x : EReal => x * c2) mul_c2_mono
    (by exact EReal.top_mul_coe_of_pos c2_pos)).symm

theorem top_neg {n : Nat} (L : Fin n → EReal) : top (fun f => -L f) = -low L := by
  apply le_antisymm
  · rw [top_eq_sup]
    refine Finset.sup_le fun f _ => ?_
    rw [EReal.neg_le_neg_iff, low_eq_inf]
    exact Finset.inf_le (Finset.mem_univ f)
  · rw [EReal.neg_le, low_eq_inf]
    refine Finset.le_inf fun f _ => ?_
    rw [EReal.neg_le, top_eq_sup]
    exact Finset.le_sup (f := fun f => -L f) (Finset.mem_univ f)

/-- The softmax of a family of logits, the largest subtracted first. -/
def soft {n : Nat} (L : Fin n → EReal) (f : Fin n) : EReal :=
  Ideal.exp (L f - top L) * Ideal.div 1 (∑ g, Ideal.exp (L g - top L))

/-- The kernel's softmax: powers of two of scaled logits. -/
theorem soft_exp2 {n : Nat} (L : Fin n → EReal) (f : Fin n) :
    Ideal.exp2 (L f * c2 - top fun g => L g * c2) * Ideal.div 1 (∑ g, Ideal.exp2 (L g * c2 - top fun g => L g * c2)) = soft L f := by
  simp only [top_mul_c2, sub_mul_c2, exp2_mul_c2, soft]

/-- … and of the negated logits, the least taken first. -/
theorem soft_neg_exp2 {n : Nat} (L : Fin n → EReal) (f : Fin n) :
    Ideal.exp2 ((low fun g => L g * c2) - L f * c2) * Ideal.div 1 (∑ g, Ideal.exp2 ((low fun g => L g * c2) - L g * c2))
      = soft (fun g => -L g) f := by
  have h : ∀ g, -L g - -low L = low L - L g := fun g => by
    rw [sub_eq_add_neg, neg_neg, add_comm, ← sub_eq_add_neg]
  simp only [low_mul_c2, sub_mul_c2, exp2_mul_c2, soft, top_neg, h]

theorem exp_unit {x : EReal} (h : x ≤ 0) : ∃ r : ℝ, Ideal.exp x = r ∧ 0 ≤ r := by
  induction x with
  | bot => exact ⟨0, rfl, le_rfl⟩
  | top => exact absurd h (by simp)
  | coe r => exact ⟨Real.exp r, rfl, (Real.exp_pos r).le⟩

/-- A softmax is real, whatever the logits. -/
theorem soft_real {n : Nat} (L : Fin n → EReal) (f : Fin n) : ∃ r : ℝ, soft L f = r := by
  have hle : ∀ g, L g - top L ≤ 0 := fun g => by
    refine EReal.sub_nonpos.2 ?_
    rw [top_eq_sup]; exact Finset.le_sup (Finset.mem_univ g)
  choose e he he0 using fun g => exp_unit (hle g)
  unfold soft
  simp only [he]
  have hs : (∑ g, ((e g : ℝ) : EReal)) = ((∑ g, e g : ℝ) : EReal) := by
    exact (coe_sum _ _).symm
  rw [hs]
  by_cases h0 : ∑ g, e g = 0
  · have hf : e f = 0 := (Finset.sum_eq_zero_iff_of_nonneg fun g _ => he0 g).1 h0 f (Finset.mem_univ f)
    refine ⟨0, ?_⟩
    rw [hf]; simp
  · refine ⟨e f * (∑ g, e g)⁻¹, ?_⟩
    unfold Ideal.div
    rw [if_neg (by exact_mod_cast h0), one_mul, ← EReal.coe_inv, ← EReal.coe_mul]

end Hedgehog
-- ==== Proof.Stage.lean ====
/- The kernel body's stages for one batch and one head, as functions of the blocks they read. -/
module

public import proofs.«01_k».proof.Proof.Gen.KernelIdeal
public import proofs.«01_k».proof.Proof.Quant
public import proofs.«01_k».proof.Proof.Feat
public import Idealize.ShloMosaic.Lib.Pointwise

@[expose] public section

set_option maxRecDepth 16384

noncomputable section

namespace Cert.KernelIdeal.Stage

open Idealize.ShloMosaic Idealize.ShloMosaic.TcCoe Cert.KernelIdeal.Gen Hedgehog

/-- The largest magnitude of each row. -/
def amaxK (v36 : Vec Ideal S1x1x160x256 .bf16) : FVec Ideal S1x256 .f32 :=
  let v37 : FVec Ideal S160x256 .bf16 := shapeCast S160x256 v36 shapeCasts_S1x1x160x256_S160x256
  let v38 : FVec Ideal S16x256 .bf16 := extractStridedSlice S16x256 ![0, 0] v37 slices_S160x256_o0_0_S16x256
  let v39 : FVec Ideal S16x256 .bf16 := absf v38
  let v40 : FVec Ideal S16x256 .bf16 := extractStridedSlice S16x256 ![16, 0] v37 slices_S160x256_o16_0_S16x256
  let v41 : FVec Ideal S16x256 .bf16 := absf v40
  let v42 : FVec Ideal S16x256 .bf16 := maximumf v39 v41
  let v43 : FVec Ideal S16x256 .bf16 := extractStridedSlice S16x256 ![32, 0] v37 slices_S160x256_o32_0_S16x256
  let v44 : FVec Ideal S16x256 .bf16 := absf v43
  let v45 : FVec Ideal S16x256 .bf16 := maximumf v42 v44
  let v46 : FVec Ideal S16x256 .bf16 := extractStridedSlice S16x256 ![48, 0] v37 slices_S160x256_o48_0_S16x256
  let v47 : FVec Ideal S16x256 .bf16 := absf v46
  let v48 : FVec Ideal S16x256 .bf16 := maximumf v45 v47
  let v49 : FVec Ideal S16x256 .bf16 := extractStridedSlice S16x256 ![64, 0] v37 slices_S160x256_o64_0_S16x256
  let v50 : FVec Ideal S16x256 .bf16 := absf v49
  let v51 : FVec Ideal S16x256 .bf16 := maximumf v48 v50
  let v52 : FVec Ideal S16x256 .bf16 := extractStridedSlice S16x256 ![80, 0] v37 slices_S160x256_o80_0_S16x256
  let v53 : FVec Ideal S16x256 .bf16 := absf v52
  let v54 : FVec Ideal S16x256 .bf16 := maximumf v51 v53
  let v55 : FVec Ideal S16x256 .bf16 := extractStridedSlice S16x256 ![96, 0] v37 slices_S160x256_o96_0_S16x256
  let v56 : FVec Ideal S16x256 .bf16 := absf v55
  let v57 : FVec Ideal S16x256 .bf16 := maximumf v54 v56
  let v58 : FVec Ideal S16x256 .bf16 := extractStridedSlice S16x256 ![112, 0] v37 slices_S160x256_o112_0_S16x256
  let v59 : FVec Ideal S16x256 .bf16 := absf v58
  let v60 : FVec Ideal S16x256 .bf16 := maximumf v57 v59
  let v61 : FVec Ideal S16x256 .bf16 := extractStridedSlice S16x256 ![128, 0] v37 slices_S160x256_o128_0_S16x256
  let v62 : FVec Ideal S16x256 .bf16 := absf v61
  let v63 : FVec Ideal S16x256 .bf16 := maximumf v60 v62
  let v64 : FVec Ideal S16x256 .bf16 := extractStridedSlice S16x256 ![144, 0] v37 slices_S160x256_o144_0_S16x256
  let v65 : FVec Ideal S16x256 .bf16 := absf v64
  let v66 : FVec Ideal S16x256 .bf16 := maximumf v63 v65
  let v67 : FVec Ideal S16x256 .f32 := extf .f32 v66 bitsLt_bf16_f32
  let v68 : FVec Ideal S256 .f32 := multiReduction .maximumf [0] S256 v67 0xFF800000#32 reduces_S16x256_S256 (.inl rfl) rfl
  let v69 : FVec Ideal S1x256 .f32 := shapeCast S1x256 v68 shapeCasts_S256_S1x256
  v69

/-- The exponent field that scales a row, from its largest magnitude. -/
def biasK (v69 : FVec Ideal S1x256 .f32) : IVec S1x256 32 :=
  let cst_17 : Ideal .f32 := Scalar.ofBits .f32 0x3B124925#32
  let v70 : FVec Ideal S1x256 .f32 := broadcast S1x256 cst_17
  let v71 : FVec Ideal S1x256 .f32 := mulf v69 v70
  let v72 : IVec S255x256 32 := iota .tc S255x256 32 [0] iota_S255x256_d0_w32
  let c1_i32 : BitVec 32 := 1#32
  let v73 : IVec S255x256 32 := broadcast S255x256 c1_i32
  let v74 : IVec S255x256 32 := addi v72 v73
  let c23_i32 : BitVec 32 := 23#32
  let v75 : IVec S255x256 32 := broadcast S255x256 c23_i32
  let v76 : IVec S255x256 32 := shli v74 v75
  let v77 : FVec Ideal S255x256 .f32 := bitcastToFloat .f32 v76
  let v78 : FVec Ideal S255x256 .f32 := broadcastTo S255x256 v71 broadcasts_S1x256_S255x256
  let v79 : IVec S255x256 1 := cmpf .oge v78 v77
  let v80 : IVec S255x256 32 := extui 32 v79 natLt_1_32
  let v81 : IVec S256 32 := multiReductionI .add [0] S256 v80 0#32 reduces_S255x256_S256 rfl
  let v82 : IVec S1x256 32 := shapeCast S1x256 v81 shapeCasts_S256_S1x256
  let c0_i32 : BitVec 32 := 0#32
  let v83 : IVec S1x256 32 := broadcast S1x256 c0_i32
  let v84 : IVec S1x256 1 := cmpi .eq v82 v83
  let c255_i32 : BitVec 32 := 255#32
  let v85 : IVec S1x256 32 := broadcast S1x256 c255_i32
  let v86 : IVec S1x256 1 := cmpi .eq v82 v85
  let v87 : IVec S1x256 1 := ori v84 v86
  let c126_i32 : BitVec 32 := 126#32
  let v88 : IVec S1x256 32 := broadcast S1x256 c126_i32
  let v89 : IVec S1x256 32 := select v87 v88 v82
  v89

/-- The scale. -/
def scK (v89 : IVec S1x256 32) : FVec Ideal S1x256 .f32 :=
  let c1_i32_19 : BitVec 32 := 1#32
  let v90 : IVec S1x256 32 := broadcast S1x256 c1_i32_19
  let v91 : IVec S1x256 32 := addi v89 v90
  let c23_i32_20 : BitVec 32 := 23#32
  let v92 : IVec S1x256 32 := broadcast S1x256 c23_i32_20
  let v93 : IVec S1x256 32 := shli v91 v92
  let v94 : FVec Ideal S1x256 .f32 := bitcastToFloat .f32 v93
  v94

/-- Its inverse. -/
def ivK (v89 : IVec S1x256 32) : FVec Ideal S1x256 .f32 :=
  let c253_i32 : BitVec 32 := 253#32
  let v95 : IVec S1x256 32 := broadcast S1x256 c253_i32
  let v96 : IVec S1x256 32 := subi v95 v89
  let c23_i32_21 : BitVec 32 := 23#32
  let v97 : IVec S1x256 32 := broadcast S1x256 c23_i32_21
  let v98 : IVec S1x256 32 := shli v96 v97
  let v99 : FVec Ideal S1x256 .f32 := bitcastToFloat .f32 v98
  v99

/-- The codes. -/
def codesK (v36 : Vec Ideal S1x1x160x256 .bf16) (v99 : FVec Ideal S1x256 .f32) : FVec Ideal S160x256 .fp8e4m3 :=
  let v37 : FVec Ideal S160x256 .bf16 := shapeCast S160x256 v36 shapeCasts_S1x1x160x256_S160x256
  let v100 : FVec Ideal S1x256 .bf16 := truncf .bf16 v99 bitsLt_bf16_f32
  let v101 : FVec Ideal S160x256 .bf16 := broadcastTo S160x256 v100 broadcasts_S1x256_S160x256
  let v102 : FVec Ideal S160x256 .bf16 := mulf v37 v101
  let cst_22 : Ideal .f32 := Scalar.ofBits .f32 0xC3E00000#32
  let cst_23 : Ideal .f32 := Scalar.ofBits .f32 0x43E00000#32
  let v103 : Ideal .bf16 := Scalar.truncf .bf16 bitsLt_bf16_f32 cst_22
  let v104 : FVec Ideal S160x256 .bf16 := broadcast S160x256 v103
  let v105 : FVec Ideal S160x256 .bf16 := maximumf v104 v102
  let v106 : Ideal .bf16 := Scalar.truncf .bf16 bitsLt_bf16_f32 cst_23
  let v107 : FVec Ideal S160x256 .bf16 := broadcast S160x256 v106
  let v108 : FVec Ideal S160x256 .bf16 := minimumf v107 v105
  let v109 : FVec Ideal S160x256 .fp8e4m3 := truncf .fp8e4m3 v108 bitsLt_fp8e4m3_bf16
  v109

/-- A row of weights as a column, in units of the base-two logarithm. -/
def colK (v5 : Vec Ideal S1x48 .f32) : FVec Ideal S48x1 .f32 :=
  let cst : Ideal .f32 := Named.named κ "log2e" 0x3FB8AA3B#32
  let v6 : FVec Ideal S1x48 .f32 := broadcast S1x48 cst
  let v7 : FVec Ideal S1x48 .f32 := mulf v5 v6
  let v8 : FVec Ideal S1x48 .f32 := shapeCast S1x48 v7 shapeCasts_S1x48_S1x48
  let v9 : FVec Ideal S8x48 .f32 := broadcastTo S8x48 v8 broadcasts_S1x48_S8x48
  let v10 : FVec Ideal S48x8 .f32 := transpose S48x8 [1, 0] v9 transposes_S8x48_p1_0_S48x8
  let v11 : FVec Ideal S48x1 .f32 := extractStridedSlice S48x1 ![0, 0] v10 slices_S48x8_o0_0_S48x1
  v11

/-- The logits. -/
def logitK (v1 : FVec Ideal S48x160 .fp8e4m3) (v109 : FVec Ideal S160x256 .fp8e4m3) (v94 : FVec Ideal S1x256 .f32) (v11 : FVec Ideal S48x1 .f32) (v19 : FVec Ideal S48x1 .f32) : FVec Ideal S48x256 .f32 :=
  let cst_57 : FVec Ideal S48x256 .f32 := constant S48x256 .f32 0x00000000#32
  let v197 : FVec Ideal S48x256 .f32 := matmul dot_S48x160_S160x256_S48x256_1_0_0_1_n_n none v1 v109 cst_57
  let v198 : FVec Ideal S48x256 .f32 := broadcastTo S48x256 v94 broadcasts_S1x256_S48x256
  let v199 : FVec Ideal S48x256 .f32 := mulf v197 v198
  let v200 : FVec Ideal S48x256 .f32 := broadcastTo S48x256 v11 broadcasts_S48x1_S48x256
  let v201 : FVec Ideal S48x256 .f32 := mulf v199 v200
  let v202 : FVec Ideal S48x256 .f32 := broadcastTo S48x256 v19 broadcasts_S48x1_S48x256
  let v203 : FVec Ideal S48x256 .f32 := addf v201 v202
  v203

/-- The softmax of the logits. -/
def posK (v203 : FVec Ideal S48x256 .f32) : FVec Ideal S48x256 .f32 :=
  let v204 : FVec Ideal S256 .f32 := multiReduction .maximumf [0] S256 v203 0xFF800000#32 reduces_S48x256_S256 (.inl rfl) rfl
  let v205 : FVec Ideal S1x256 .f32 := shapeCast S1x256 v204 shapeCasts_S256_S1x256
  let v206 : FVec Ideal S48x256 .f32 := broadcastTo S48x256 v205 broadcasts_S1x256_S48x256
  let v207 : FVec Ideal S48x256 .f32 := subf v203 v206
  let v208 : FVec Ideal S48x256 .f32 := exp2 v207
  let v214 : FVec Ideal S256 .f32 := multiReduction .add [0] S256 v208 0x00000000#32 reduces_S48x256_S256 (.inl rfl) rfl
  let v215 : FVec Ideal S1x256 .f32 := shapeCast S1x256 v214 shapeCasts_S256_S1x256
  let cst_61 : Ideal .f32 := Scalar.ofBits .f32 0x3F800000#32
  let v216 : FVec Ideal S1x256 .f32 := broadcast S1x256 cst_61
  let v217 : FVec Ideal S1x256 .f32 := divf v216 v215
  let v218 : FVec Ideal S48x256 .f32 := broadcastTo S48x256 v217 broadcasts_S1x256_S48x256
  let v219 : FVec Ideal S48x256 .f32 := mulf v208 v218
  v219

/-- The softmax of their negatives. -/
def negK (v203 : FVec Ideal S48x256 .f32) : FVec Ideal S48x256 .f32 :=
  let v209 : FVec Ideal S256 .f32 := multiReduction .minimumf [0] S256 v203 0x7F800000#32 reduces_S48x256_S256 (.inl rfl) rfl
  let v210 : FVec Ideal S1x256 .f32 := shapeCast S1x256 v209 shapeCasts_S256_S1x256
  let v211 : FVec Ideal S48x256 .f32 := broadcastTo S48x256 v210 broadcasts_S1x256_S48x256
  let v212 : FVec Ideal S48x256 .f32 := subf v211 v203
  let v213 : FVec Ideal S48x256 .f32 := exp2 v212
  let v220 : FVec Ideal S256 .f32 := multiReduction .add [0] S256 v213 0x00000000#32 reduces_S48x256_S256 (.inl rfl) rfl
  let v221 : FVec Ideal S1x256 .f32 := shapeCast S1x256 v220 shapeCasts_S256_S1x256
  let cst_63 : Ideal .f32 := Scalar.ofBits .f32 0x3F800000#32
  let v222 : FVec Ideal S1x256 .f32 := broadcast S1x256 cst_63
  let v223 : FVec Ideal S1x256 .f32 := divf v222 v221
  let v224 : FVec Ideal S48x256 .f32 := broadcastTo S48x256 v223 broadcasts_S1x256_S48x256
  let v225 : FVec Ideal S48x256 .f32 := mulf v213 v224
  v225

/-- The features, in 128 lanes. -/
def featK (v219 : FVec Ideal S48x256 .f32) (v225 : FVec Ideal S48x256 .f32) : FVec Ideal S128x256 .bf16 :=
  let cst_56 : Ideal .bf16 := Scalar.ofBits .bf16 0x0000#16
  let v196 : FVec Ideal S32x256 .bf16 := broadcast S32x256 cst_56
  let v226 : FVec Ideal S96x256 .f32 := concatenate S96x256 0 [⟨S48x256, v219⟩, ⟨S48x256, v225⟩] concatenates_S48x256_S48x256_S96x256_d0
  let v227 : FVec Ideal S96x256 .bf16 := truncf .bf16 v226 bitsLt_bf16_f32
  let v228 : FVec Ideal S128x256 .bf16 := concatenate S128x256 0 [⟨S96x256, v227⟩, ⟨S32x256, v196⟩] concatenates_S96x256_S32x256_S128x256_d0
  v228

/-- The rows below the keys: the state sum in three parts. -/
def ztailK (v262 : Vec Ideal S1x1x96 .f32) : FVec Ideal S16x128 .bf16 :=
  let v263 : FVec Ideal S1x96 .f32 := shapeCast S1x96 v262 shapeCasts_S1x1x96_S1x96
  let cst_74 : Ideal .f32 := Scalar.ofBits .f32 0x00000000#32
  let v264 : FVec Ideal S1x32 .f32 := broadcast S1x32 cst_74
  let v265 : FVec Ideal S1x128 .f32 := concatenate S1x128 1 [⟨S1x96, v263⟩, ⟨S1x32, v264⟩] concatenates_S1x96_S1x32_S1x128_d1
  let v266 : FVec Ideal S1x128 .bf16 := truncf .bf16 v265 bitsLt_bf16_f32
  let v267 : FVec Ideal S1x128 .f32 := extf .f32 v266 bitsLt_bf16_f32
  let v268 : FVec Ideal S1x128 .f32 := subf v265 v267
  let v269 : FVec Ideal S1x128 .bf16 := truncf .bf16 v268 bitsLt_bf16_f32
  let v270 : FVec Ideal S1x128 .f32 := extf .f32 v269 bitsLt_bf16_f32
  let v271 : FVec Ideal S1x128 .f32 := subf v268 v270
  let v272 : FVec Ideal S1x128 .bf16 := truncf .bf16 v271 bitsLt_bf16_f32
  let cst_75 : Ideal .bf16 := Scalar.ofBits .bf16 0x0000#16
  let v273 : FVec Ideal S13x128 .bf16 := broadcast S13x128 cst_75
  let v274 : FVec Ideal S16x128 .bf16 := concatenate S16x128 0 [⟨S1x128, v266⟩, ⟨S1x128, v269⟩, ⟨S1x128, v272⟩, ⟨S13x128, v273⟩] concatenates_S1x128_S1x128_S1x128_S13x128_S16x128_d0
  v274

/-- The keys and the state sum against the queries. -/
def atAllK (v260 : FVec Ideal S128x256 .bf16) (v274 : FVec Ideal S16x128 .bf16) (v228 : FVec Ideal S128x256 .bf16) : FVec Ideal S272x256 .f32 :=
  let v261 : FVec Ideal S256x128 .bf16 := transpose S256x128 [1, 0] v260 transposes_S128x256_p1_0_S256x128
  let v275 : FVec Ideal S272x128 .bf16 := concatenate S272x128 0 [⟨S256x128, v261⟩, ⟨S16x128, v274⟩] concatenates_S256x128_S16x128_S272x128_d0
  let cst_76 : FVec Ideal S272x256 .f32 := constant S272x256 .f32 0x00000000#32
  let v276 : FVec Ideal S272x256 .f32 := matmul dot_S272x128_S128x256_S272x256_1_0_0_1_n_n none v275 v228 cst_76
  v276

/-- The causal scores. -/
def atK (v276 : FVec Ideal S272x256 .f32) : FVec Ideal S256x256 .f32 :=
  let v277 : FVec Ideal S256x256 .f32 := extractStridedSlice S256x256 ![0, 0] v276 slices_S272x256_o0_0_S256x256
  let v278 : IVec S256x256 32 := iota .tc S256x256 32 [0] iota_S256x256_d0_w32
  let v279 : IVec S256x256 32 := iota .tc S256x256 32 [1] iota_S256x256_d1_w32
  let v280 : IVec S256x256 1 := cmpi .sle v278 v279
  let cst_77 : Ideal .f32 := Scalar.ofBits .f32 0x00000000#32
  let v281 : FVec Ideal S256x256 .f32 := broadcast S256x256 cst_77
  let v282 : FVec Ideal S256x256 .f32 := select v280 v277 v281
  v282

/-- The denominators. -/
def denK (v276 : FVec Ideal S272x256 .f32) (v282 : FVec Ideal S256x256 .f32) : FVec Ideal S1x256 .f32 :=
  let v283 : FVec Ideal S256 .f32 := multiReduction .add [0] S256 v282 0x00000000#32 reduces_S256x256_S256 (.inl rfl) rfl
  let v284 : FVec Ideal S1x256 .f32 := shapeCast S1x256 v283 shapeCasts_S256_S1x256
  let v285 : FVec Ideal S8x256 .f32 := extractStridedSlice S8x256 ![256, 0] v276 slices_S272x256_o256_0_S8x256
  let v286 : FVec Ideal S256 .f32 := multiReduction .add [0] S256 v285 0x00000000#32 reduces_S8x256_S256 (.inl rfl) rfl
  let v287 : FVec Ideal S1x256 .f32 := shapeCast S1x256 v286 shapeCasts_S256_S1x256
  let v288 : FVec Ideal S1x256 .f32 := addf v284 v287
  v288

/-- The state. -/
def s3K (v351 : Vec Ideal S1x1x160x96 .f32) : FVec Ideal S160x128 .f32 :=
  let v352 : FVec Ideal S160x96 .f32 := shapeCast S160x96 v351 shapeCasts_S1x1x160x96_S160x96
  let cst_103 : Ideal .f32 := Scalar.ofBits .f32 0x00000000#32
  let v353 : FVec Ideal S160x32 .f32 := broadcast S160x32 cst_103
  let v354 : FVec Ideal S160x128 .f32 := concatenate S160x128 1 [⟨S160x96, v352⟩, ⟨S160x32, v353⟩] concatenates_S160x96_S160x32_S160x128_d1
  v354

/-- The numerators. -/
def numK (v349 : Vec Ideal S1x1x160x256 .bf16) (v354 : FVec Ideal S160x128 .f32) (v282 : FVec Ideal S256x256 .f32) (v228 : FVec Ideal S128x256 .bf16) : FVec Ideal S160x256 .f32 :=
  let v278 : IVec S256x256 32 := iota .tc S256x256 32 [0] iota_S256x256_d0_w32
  let v279 : IVec S256x256 32 := iota .tc S256x256 32 [1] iota_S256x256_d1_w32
  let v289 : FVec Ideal S256x256 .bf16 := truncf .bf16 v282 bitsLt_bf16_f32
  let v290 : FVec Ideal S256x256 .f32 := extf .f32 v289 bitsLt_bf16_f32
  let v291 : FVec Ideal S256x256 .f32 := subf v282 v290
  let v292 : FVec Ideal S256x256 .bf16 := truncf .bf16 v291 bitsLt_bf16_f32
  let v293 : FVec Ideal S256x256 .f32 := extf .f32 v292 bitsLt_bf16_f32
  let v294 : FVec Ideal S256x256 .f32 := subf v291 v293
  let v295 : FVec Ideal S256x256 .bf16 := truncf .bf16 v294 bitsLt_bf16_f32
  let c64_i32 : BitVec 32 := 64#32
  let v296 : IVec S256x256 32 := broadcast S256x256 c64_i32
  let v297 : IVec S256x256 32 := divsi v278 v296
  let c0_i32_80 : BitVec 32 := 0#32
  let v298 : IVec S256x256 32 := broadcast S256x256 c0_i32_80
  let v299 : IVec S256x256 1 := cmpi .sgt v278 v298
  let v300 : IVec S256x256 32 := extui 32 v299 natLt_1_32
  let c0_i32_81 : BitVec 32 := 0#32
  let v301 : IVec S256x256 32 := broadcast S256x256 c0_i32_81
  let v302 : IVec S256x256 1 := cmpi .slt v278 v301
  let v303 : IVec S256x256 32 := extui 32 v302 natLt_1_32
  let v304 : IVec S256x256 32 := subi v300 v303
  let c0_i32_82 : BitVec 32 := 0#32
  let v305 : BitVec 1 := Scalar.cmpi .sgt c64_i32 c0_i32_82
  let v306 : BitVec 32 := Scalar.extui v305
  let c0_i32_83 : BitVec 32 := 0#32
  let v307 : BitVec 1 := Scalar.cmpi .slt c64_i32 c0_i32_83
  let v308 : BitVec 32 := Scalar.extui v307
  let v309 : BitVec 32 := Scalar.subi v306 v308
  let v310 : IVec S256x256 32 := broadcast S256x256 v309
  let v311 : IVec S256x256 1 := cmpi .ne v304 v310
  let v312 : IVec S256x256 32 := broadcast S256x256 c64_i32
  let v313 : IVec S256x256 32 := remsi v278 v312
  let c0_i32_84 : BitVec 32 := 0#32
  let v314 : IVec S256x256 32 := broadcast S256x256 c0_i32_84
  let v315 : IVec S256x256 1 := cmpi .ne v313 v314
  let v316 : IVec S256x256 1 := andi v311 v315
  let c1_i32_85 : BitVec 32 := 1#32
  let v317 : IVec S256x256 32 := broadcast S256x256 c1_i32_85
  let v318 : IVec S256x256 32 := subi v297 v317
  let v319 : IVec S256x256 32 := select v316 v318 v297
  let c64_i32_86 : BitVec 32 := 64#32
  let v320 : IVec S256x256 32 := broadcast S256x256 c64_i32_86
  let v321 : IVec S256x256 32 := divsi v279 v320
  let c0_i32_87 : BitVec 32 := 0#32
  let v322 : IVec S256x256 32 := broadcast S256x256 c0_i32_87
  let v323 : IVec S256x256 1 := cmpi .sgt v279 v322
  let v324 : IVec S256x256 32 := extui 32 v323 natLt_1_32
  let c0_i32_88 : BitVec 32 := 0#32
  let v325 : IVec S256x256 32 := broadcast S256x256 c0_i32_88
  let v326 : IVec S256x256 1 := cmpi .slt v279 v325
  let v327 : IVec S256x256 32 := extui 32 v326 natLt_1_32
  let v328 : IVec S256x256 32 := subi v324 v327
  let c0_i32_89 : BitVec 32 := 0#32
  let v329 : BitVec 1 := Scalar.cmpi .sgt c64_i32_86 c0_i32_89
  let v330 : BitVec 32 := Scalar.extui v329
  let c0_i32_90 : BitVec 32 := 0#32
  let v331 : BitVec 1 := Scalar.cmpi .slt c64_i32_86 c0_i32_90
  let v332 : BitVec 32 := Scalar.extui v331
  let v333 : BitVec 32 := Scalar.subi v330 v332
  let v334 : IVec S256x256 32 := broadcast S256x256 v333
  let v335 : IVec S256x256 1 := cmpi .ne v328 v334
  let v336 : IVec S256x256 32 := broadcast S256x256 c64_i32_86
  let v337 : IVec S256x256 32 := remsi v279 v336
  let c0_i32_91 : BitVec 32 := 0#32
  let v338 : IVec S256x256 32 := broadcast S256x256 c0_i32_91
  let v339 : IVec S256x256 1 := cmpi .ne v337 v338
  let v340 : IVec S256x256 1 := andi v335 v339
  let c1_i32_92 : BitVec 32 := 1#32
  let v341 : IVec S256x256 32 := broadcast S256x256 c1_i32_92
  let v342 : IVec S256x256 32 := subi v321 v341
  let v343 : IVec S256x256 32 := select v340 v342 v321
  let v344 : IVec S256x256 1 := cmpi .slt v319 v343
  let cst_93 : Ideal .bf16 := Scalar.ofBits .bf16 0x0000#16
  let v345 : FVec Ideal S256x256 .bf16 := broadcast S256x256 cst_93
  let v346 : FVec Ideal S256x256 .bf16 := select v344 v292 v345
  let cst_94 : Ideal .bf16 := Scalar.ofBits .bf16 0x0000#16
  let v347 : FVec Ideal S256x256 .bf16 := broadcast S256x256 cst_94
  let v348 : FVec Ideal S256x256 .bf16 := select v344 v295 v347
  let v350 : FVec Ideal S160x256 .bf16 := shapeCast S160x256 v349 shapeCasts_S1x1x160x256_S160x256
  let v355 : FVec Ideal S160x128 .bf16 := truncf .bf16 v354 bitsLt_bf16_f32
  let v356 : FVec Ideal S160x128 .f32 := extf .f32 v355 bitsLt_bf16_f32
  let v357 : FVec Ideal S160x128 .f32 := subf v354 v356
  let v358 : FVec Ideal S160x128 .bf16 := truncf .bf16 v357 bitsLt_bf16_f32
  let v359 : FVec Ideal S160x128 .f32 := extf .f32 v358 bitsLt_bf16_f32
  let v360 : FVec Ideal S160x128 .f32 := subf v357 v359
  let v361 : FVec Ideal S160x128 .bf16 := truncf .bf16 v360 bitsLt_bf16_f32
  let v362 : FVec Ideal S160x1152 .bf16 := concatenate S160x1152 1 [⟨S160x256, v350⟩, ⟨S160x256, v350⟩, ⟨S160x256, v350⟩, ⟨S160x128, v355⟩, ⟨S160x128, v358⟩, ⟨S160x128, v361⟩] concatenates_S160x256_S160x256_S160x256_S160x128_S160x128_S160x128_S160x1152_d1
  let v363 : FVec Ideal S1152x256 .bf16 := concatenate S1152x256 0 [⟨S256x256, v289⟩, ⟨S256x256, v346⟩, ⟨S256x256, v348⟩, ⟨S128x256, v228⟩, ⟨S128x256, v228⟩, ⟨S128x256, v228⟩] concatenates_S256x256_S256x256_S256x256_S128x256_S128x256_S128x256_S1152x256_d0
  let cst_104 : FVec Ideal S160x256 .f32 := constant S160x256 .f32 0x00000000#32
  let v364 : FVec Ideal S160x256 .f32 := matmul dot_S160x1152_S1152x256_S160x256_1_0_0_1_n_n none v362 v363 cst_104
  v364

/-- The output. -/
def outK (v364 : FVec Ideal S160x256 .f32) (v288 : FVec Ideal S1x256 .f32) : FVec Ideal S1x1x160x256 .bf16 :=
  let cst_105 : Ideal .f32 := Scalar.ofBits .f32 0x3F800000#32
  let v365 : FVec Ideal S1x256 .f32 := broadcast S1x256 cst_105
  let v366 : FVec Ideal S1x256 .f32 := divf v365 v288
  let v367 : FVec Ideal S160x256 .f32 := broadcastTo S160x256 v366 broadcasts_S1x256_S160x256
  let v368 : FVec Ideal S160x256 .f32 := mulf v364 v367
  let v369 : FVec Ideal S160x256 .bf16 := truncf .bf16 v368 bitsLt_bf16_f32
  let v372 : FVec Ideal S1x1x160x256 .bf16 := shapeCast S1x1x160x256 v369 shapeCasts_S160x256_S1x1x160x256
  v372

/-- What the chunk adds to the state. -/
def dsK (v349 : Vec Ideal S1x1x160x256 .bf16) (v260 : FVec Ideal S128x256 .bf16) : FVec Ideal S176x128 .f32 :=
  let v261 : FVec Ideal S256x128 .bf16 := transpose S256x128 [1, 0] v260 transposes_S128x256_p1_0_S256x128
  let v350 : FVec Ideal S160x256 .bf16 := shapeCast S160x256 v349 shapeCasts_S1x1x160x256_S160x256
  let cst_110 : Ideal .bf16 := Scalar.ofBits .bf16 0x3F80#16
  let v373 : FVec Ideal S16x256 .bf16 := broadcast S16x256 cst_110
  let v374 : FVec Ideal S176x256 .bf16 := concatenate S176x256 0 [⟨S160x256, v350⟩, ⟨S16x256, v373⟩] concatenates_S160x256_S16x256_S176x256_d0
  let cst_111 : FVec Ideal S176x128 .f32 := constant S176x128 .f32 0x00000000#32
  let v375 : FVec Ideal S176x128 .f32 := matmul dot_S176x256_S256x128_S176x128_1_0_0_1_n_n none v374 v261 cst_111
  v375

/-- The state after. -/
def sfK (v376 : Vec Ideal S1x1x160x96 .f32) (v375 : FVec Ideal S176x128 .f32) : FVec Ideal S1x1x160x96 .f32 :=
  let v377 : FVec Ideal S160x96 .f32 := shapeCast S160x96 v376 shapeCasts_S1x1x160x96_S160x96
  let v378 : FVec Ideal S160x96 .f32 := extractStridedSlice S160x96 ![0, 0] v375 slices_S176x128_o0_0_S160x96
  let v379 : FVec Ideal S160x96 .f32 := addf v377 v378
  let v382 : FVec Ideal S1x1x160x96 .f32 := shapeCast S1x1x160x96 v379 shapeCasts_S160x96_S1x1x160x96
  v382

/-- The state sum after. -/
def zfK (v383 : Vec Ideal S1x1x96 .f32) (v375 : FVec Ideal S176x128 .f32) : FVec Ideal S1x1x96 .f32 :=
  let v384 : FVec Ideal S1x96 .f32 := shapeCast S1x96 v383 shapeCasts_S1x1x96_S1x96
  let v385 : FVec Ideal S1x96 .f32 := extractStridedSlice S1x96 ![160, 0] v375 slices_S176x128_o160_0_S1x96
  let v386 : FVec Ideal S1x96 .f32 := addf v384 v385
  let v389 : FVec Ideal S1x1x96 .f32 := shapeCast S1x1x96 v386 shapeCasts_S1x96_S1x1x96
  v389

/-- The codes as a block. -/
def qcK (v109 : FVec Ideal S160x256 .fp8e4m3) : FVec Ideal S1x1x160x256 .fp8e4m3 :=
  let v186 : FVec Ideal S1x1x160x256 .fp8e4m3 := shapeCast S1x1x160x256 v109 shapeCasts_S160x256_S1x1x160x256
  v186

/-- The scales as a block. -/
def qsK (v94 : FVec Ideal S1x256 .f32) : FVec Ideal S1x1x256 .f32 :=
  let v192 : FVec Ideal S1x1x256 .f32 := shapeCast S1x1x256 v94 shapeCasts_S1x256_S1x1x256
  v192

end Cert.KernelIdeal.Stage
-- ==== Proof.Kern.lean ====
/- The kernel body's stages read at an index. -/
module

public import proofs.«01_k».proof.Proof.Stage

@[expose] public section

set_option maxRecDepth 16384

noncomputable section

namespace Hedgehog

open Idealize.ShloMosaic

/-- The magnitude. -/
abbrev absE (x : EReal) : EReal := max x (-x)

/-- A row's largest magnitude. -/
abbrev amax {n : Nat} (x : Fin n → EReal) : EReal := top fun d => absE (x d)

/-- The code of a value under the inverse scale `r`. -/
abbrev code (r x : EReal) : EReal := min (Ideal.ofBits .f32 0x43E00000#32) (max (Ideal.ofBits .f32 0xC3E00000#32) (x * r))

end Hedgehog

namespace Cert.KernelIdeal.Stage

open Idealize.ShloMosaic Idealize.ShloMosaic.TcCoe Cert.KernelIdeal.Gen Hedgehog

theorem amaxK_at (x : Vec Ideal S1x1x160x256 .bf16) (t : Fin 256) :
    amaxK x (ix2 0 t) = amax fun d : Fin 160 => x (ix4 0 0 d t) := by
  pointwise [amaxK]
  rw [ofBits_ninf]
  have h : ∀ d, absE (x (ix4 0 0 d t)) ≤ amax fun d : Fin 160 => x (ix4 0 0 d t) := fun d =>
    Finset.le_sup (f := fun d : Fin 160 => absE (x (ix4 0 0 d t))) (Finset.mem_univ d)
  refine le_antisymm ((Finset.fold_max_le _).2 ⟨bot_le, fun k _ => ?_⟩) ((Finset.fold_max_le _).2 ⟨bot_le, fun d _ => ?_⟩)
  · repeat' (first | exact h _ | apply max_le)
  · have hd := d.isLt
    have e : ∀ r (hr : r < 160), r = d.val → absE (x (ix4 0 0 d t)) ≤ absE (x (ix4 0 0 ⟨r, hr⟩ t)) := by
      intro r hr h; subst h; exact le_rfl
    refine Finset.le_fold_max _ |>.2 (Or.inr ⟨⟨d.val % 16, by omega⟩, Finset.mem_univ _, ?_⟩)
    by_contra hn
    simp only [le_max_iff, not_or] at hn
    obtain ⟨⟨⟨⟨⟨⟨⟨⟨⟨h0, h1⟩, h2⟩, h3⟩, h4⟩, h5⟩, h6⟩, h7⟩, h8⟩, h9⟩ := hn
    have hr : d.val / 16 < 10 := by omega
    obtain h | h | h | h | h | h | h | h | h | h : d.val / 16 = 0 ∨ d.val / 16 = 1 ∨ d.val / 16 = 2 ∨ d.val / 16 = 3 ∨ d.val / 16 = 4
        ∨ d.val / 16 = 5 ∨ d.val / 16 = 6 ∨ d.val / 16 = 7 ∨ d.val / 16 = 8 ∨ d.val / 16 = 9 := by omega
    · exact h0 (e _ _ (by omega))
    · exact h1 (e _ _ (by omega))
    · exact h2 (e _ _ (by omega))
    · exact h3 (e _ _ (by omega))
    · exact h4 (e _ _ (by omega))
    · exact h5 (e _ _ (by omega))
    · exact h6 (e _ _ (by omega))
    · exact h7 (e _ _ (by omega))
    · exact h8 (e _ _ (by omega))
    · exact h9 (e _ _ (by omega))

theorem reach_eq (y : EReal) (k : Fin 255) :
    BitVec.setWidth 32 (BitVec.ofBool (decide (Ideal.ofBits FTy.f32 (IntOp.shli ArithUnit.vector (IntOp.addi (BitVec.ofNat 32 k.val) 1#32) 23#32) ≤ y)))
      = reach y (k.val + 1) := by
  have h : IntOp.shli ArithUnit.vector (IntOp.addi (BitVec.ofNat 32 k.val) 1#32) 23#32 = BitVec.ofNat 32 (k.val + 1) <<< 23 := by
    show (BitVec.ofNat 32 k.val + 1#32) <<< 23 = _
    rw [BitVec.ofNat_add]
  rw [h, reach]
  split <;> rename_i h <;> simp [h]

/-- The count as the body has it. -/
def count (y : EReal) : BitVec 32 := Finset.fold IntOp.addi 0#32 (fun k : Fin 255 =>
  BitVec.setWidth 32 (BitVec.ofBool (decide (Ideal.ofBits FTy.f32 (IntOp.shli ArithUnit.vector (IntOp.addi (BitVec.ofNat 32 k.val) 1#32) 23#32) ≤ y)))) Finset.univ

theorem count_eq (y : EReal) : count y = field y := by
  simp only [count, reach_eq, field]

theorem biasK_at (x : FVec Ideal S1x256 .f32) (t : Fin 256) :
    biasK x (ix2 0 t) = biased (x (ix2 0 t) * c448) := by
  pointwise [biasK]
  show Scalar.select (IntOp.ori (IntOp.cmpi .eq (count (x (ix2 0 t) * c448)) 0#32) (IntOp.cmpi .eq (count (x (ix2 0 t) * c448)) 255#32)) 126#32 (count (x (ix2 0 t) * c448)) = _
  rw [count_eq]
  unfold biased
  generalize field (x (ix2 0 t) * c448) = w
  simp only [Scalar.select, IntOp.ori, IntOp.cmpi]
  by_cases h0 : w = 0#32
  · subst h0; rfl
  · by_cases h1 : w = 255#32
    · subst h1; rfl
    · have h : (w == 0#32 || w == 255#32) = false := by simp [h0, h1]
      simp [h0, h1, h]

theorem scK_at (x : IVec S1x256 32) (t : Fin 256) :
    scK x (ix2 0 t) = Ideal.ofBits .f32 ((x (ix2 0 t) + 1#32) <<< 23) := by
  pointwise [scK]
  rfl

theorem ivK_at (x : IVec S1x256 32) (t : Fin 256) :
    ivK x (ix2 0 t) = Ideal.ofBits .f32 ((253#32 - x (ix2 0 t)) <<< 23) := by
  pointwise [ivK]
  rfl

theorem codesK_at (x : Vec Ideal S1x1x160x256 .bf16) (s : FVec Ideal S1x256 .f32) (d : Fin 160) (t : Fin 256) :
    codesK x s (ix2 d t) = min (Ideal.ofBits FTy.f32 0x43E00000#32) (max (Ideal.ofBits FTy.f32 0xC3E00000#32) (x (ix4 0 0 d t) * s (ix2 0 t))) := by
  pointwise [codesK]

theorem colK_at (x : Vec Ideal S1x48 .f32) (f : Fin 48) :
    colK x (ix2 f 0) = x (ix2 0 f) * c2 := by
  pointwise [colK]
  rw [IdealRules.named_const.ideal_named_scalar Cert.KernelIdeal.κ "log2e" _ _ rfl]

theorem logitK_at (w : FVec Ideal S48x160 .fp8e4m3) (x : FVec Ideal S160x256 .fp8e4m3) (s : FVec Ideal S1x256 .f32) (a b : FVec Ideal S48x1 .f32) (f : Fin 48) (t : Fin 256) :
    logitK w x s a b (ix2 f t) = (∑ d : Fin 160, w (ix2 f d) * x (ix2 d t)) * s (ix2 0 t) * a (ix2 f 0) + b (ix2 f 0) := by
  pointwise [logitK]

theorem posK_at (x : FVec Ideal S48x256 .f32) (L : Fin 48 → EReal) (t : Fin 256) (h : ∀ f, x (ix2 f t) = L f * c2) (f : Fin 48) :
    posK x (ix2 f t) = soft L f := by
  pointwise [posK]
  rw [ofBits_ninf]
  simp only [h]
  exact (soft_exp2 L f)

theorem negK_at (x : FVec Ideal S48x256 .f32) (L : Fin 48 → EReal) (t : Fin 256) (h : ∀ f, x (ix2 f t) = L f * c2) (f : Fin 48) :
    negK x (ix2 f t) = soft (fun f => -L f) f := by
  pointwise [negK]
  rw [ofBits_pinf]
  simp only [h]
  exact (soft_neg_exp2 L f)

theorem featK_at (x y : FVec Ideal S48x256 .f32) (f : Fin 128) (t : Fin 256) :
    featK x y (ix2 f t) = if h : f.val < 96 then (if h1 : f.val < 48 then x (ix2 ⟨f.val, h1⟩ t) else y (ix2 ⟨f.val - 48, by omega⟩ t)) else 0 := by
  pointwise [featK]

/-- The state sum in 128 lanes. -/
def zlane (z : Vec Ideal S1x1x96 .f32) (f : Fin 128) : EReal := if h : f.val < 96 then z (ix3 0 0 ⟨f.val, h⟩) else 0

theorem ztailK_at (z : Vec Ideal S1x1x96 .f32) (r : Fin 16) (f : Fin 128) :
    ztailK z (ix2 r f) = if r.val < 1 then zlane z f else if r.val - 1 < 1 then zlane z f - zlane z f
      else if r.val - 1 - 1 < 1 then zlane z f - zlane z f - (zlane z f - zlane z f) else 0 := by
  pointwise [ztailK]
  rfl

theorem atAllK_at (k : FVec Ideal S128x256 .bf16) (z : FVec Ideal S16x128 .bf16) (q : FVec Ideal S128x256 .bf16) (r : Fin 272) (t : Fin 256) :
    atAllK k z q (ix2 r t) = ∑ f : Fin 128, (if h : r.val < 256 then k (ix2 f ⟨r.val, h⟩) else z (ix2 ⟨r.val - 256, by omega⟩ f)) * q (ix2 f t) := by
  pointwise [atAllK]

theorem atK_at (x : FVec Ideal S272x256 .f32) (j i : Fin 256) :
    atK x (ix2 j i) = if j.val ≤ i.val then x (ix2 ⟨j.val, by omega⟩ i) else 0 := by
  pointwise [atK]
  have : IntOp.cmpi CmpIPredicate.sle (BitVec.ofNat 32 j.val) (BitVec.ofNat 32 i.val) = BitVec.ofBool (decide (j.val ≤ i.val)) := by
    have hj := j.isLt
    have hi := i.isLt
    show BitVec.ofBool (BitVec.sle _ _) = _
    congr 1
    simp only [BitVec.sle_eq_decide, decide_eq_decide]
    rw [BitVec.toInt_eq_toNat_of_lt (by rw [BitVec.toNat_ofNat]; omega), BitVec.toInt_eq_toNat_of_lt (by rw [BitVec.toNat_ofNat]; omega)]
    rw [BitVec.toNat_ofNat, BitVec.toNat_ofNat]; omega
  rw [this]
  by_cases h : j.val ≤ i.val <;> simp [h, Scalar.select]

theorem denK_at (x : FVec Ideal S272x256 .f32) (y : FVec Ideal S256x256 .f32) (i : Fin 256) :
    denK x y (ix2 0 i) = ∑ j : Fin 256, y (ix2 j i) + ∑ r : Fin 8, x (ix2 ⟨256 + r.val, by omega⟩ i) := by
  pointwise [denK]

theorem s3K_at (s : Vec Ideal S1x1x160x96 .f32) (d : Fin 160) (f : Fin 128) :
    s3K s (ix2 d f) = if h : f.val < 96 then s (ix4 0 0 d ⟨f.val, h⟩) else 0 := by
  pointwise [s3K]

theorem outK_at (x : FVec Ideal S160x256 .f32) (y : FVec Ideal S1x256 .f32) (d : Fin 160) (t : Fin 256) :
    outK x y (ix4 0 0 d t) = x (ix2 d t) * Ideal.div 1 (y (ix2 0 t)) := by
  pointwise [outK]

theorem dsK_at (v : Vec Ideal S1x1x160x256 .bf16) (k : FVec Ideal S128x256 .bf16) (d : Fin 176) (f : Fin 128) :
    dsK v k (ix2 d f) = ∑ j : Fin 256, (if h : d.val < 160 then v (ix4 0 0 ⟨d.val, h⟩ j) else 1) * k (ix2 f j) := by
  pointwise [dsK]

theorem sfK_at (s : Vec Ideal S1x1x160x96 .f32) (y : FVec Ideal S176x128 .f32) (d : Fin 160) (f : Fin 96) :
    sfK s y (ix4 0 0 d f) = s (ix4 0 0 d f) + y (ix2 ⟨d.val, by omega⟩ ⟨f.val, by omega⟩) := by
  pointwise [sfK]

theorem zfK_at (s : Vec Ideal S1x1x96 .f32) (y : FVec Ideal S176x128 .f32) (f : Fin 96) :
    zfK s y (ix3 0 0 f) = s (ix3 0 0 f) + y (ix2 160 ⟨f.val, by omega⟩) := by
  pointwise [zfK]

theorem qcK_at (x : FVec Ideal S160x256 .fp8e4m3) (d : Fin 160) (t : Fin 256) : qcK x (ix4 0 0 d t) = x (ix2 d t) := by
  pointwise [qcK]

theorem qsK_at (x : FVec Ideal S1x256 .f32) (t : Fin 256) : qsK x (ix3 0 0 t) = x (ix2 0 t) := by
  pointwise [qsK]

/-- The lanes of `p` hold the features `P` of each token, and zero past the 96th. -/
def Lanes (p : FVec Ideal S128x256 .bf16) (P : Fin 256 → Fin 96 → ℝ) : Prop :=
  ∀ f t, p (ix2 f t) = if h : f.val < 96 then ((P t ⟨f.val, h⟩ : ℝ) : EReal) else 0

theorem lanes_sum (a b : Fin 128 → EReal) (A B : Fin 96 → ℝ) (ha : ∀ f, a f = if h : f.val < 96 then ((A ⟨f.val, h⟩ : ℝ) : EReal) else 0)
    (hb : ∀ f, b f = if h : f.val < 96 then ((B ⟨f.val, h⟩ : ℝ) : EReal) else 0) :
    (∑ f, a f * b f) = ((∑ f, A f * B f : ℝ) : EReal) := by
  show (∑ f : Fin (96 + 32), a f * b f) = _
  rw [Fin.sum_univ_add, coe_sum]
  have h2 : (∑ f : Fin 32, a (Fin.natAdd 96 f) * b (Fin.natAdd 96 f)) = 0 := by
    refine Finset.sum_eq_zero fun f _ => ?_
    rw [ha, dif_neg (by simp), zero_mul]
  rw [h2, add_zero]
  refine Finset.sum_congr rfl fun f _ => ?_
  rw [ha, hb, dif_pos (by simp), dif_pos (by simp)]
  exact (EReal.coe_mul _ _).symm

section attention

variable {k q : FVec Ideal S128x256 .bf16} {K Q : Fin 256 → Fin 96 → ℝ} (hk : Lanes k K) (hq : Lanes q Q)
  {z : Vec Ideal S1x1x96 .f32} {Z : Fin 96 → ℝ} (hz : ∀ f, z (ix3 0 0 f) = ((Z f : ℝ) : EReal))
  {v : Vec Ideal S1x1x160x256 .bf16} {V : Fin 256 → Fin 160 → ℝ} (hv : ∀ d j, v (ix4 0 0 d j) = ((V j d : ℝ) : EReal))
  {s : Vec Ideal S1x1x160x96 .f32} {T : Fin 160 → Fin 96 → ℝ} (hs : ∀ d f, s (ix4 0 0 d f) = ((T d f : ℝ) : EReal))

include hk hq

theorem scores_at (zt : FVec Ideal S16x128 .bf16) (j i : Fin 256) :
    atK (atAllK k zt q) (ix2 j i) = (((if j.val ≤ i.val then ∑ f, K j f * Q i f else 0 : ℝ)) : EReal) := by
  rw [atK_at]
  split
  · rw [atAllK_at]
    refine lanes_sum _ _ _ _ (fun f => ?_) (fun f => hq f i)
    rw [dif_pos (show (⟨j.val, _⟩ : Fin 272).val < 256 from j.isLt)]
    exact hk f j
  · rfl

omit hk hq in
include hz in
theorem ztail_at (r : Fin 16) (f : Fin 128) :
    ztailK z (ix2 r f) = if h : f.val < 96 then ((if r.val = 0 then Z ⟨f.val, h⟩ else 0 : ℝ) : EReal) else 0 := by
  rw [ztailK_at]
  have e : zlane z f = (((if h : f.val < 96 then Z ⟨f.val, h⟩ else 0 : ℝ)) : EReal) := by
    unfold zlane
    split
    · rw [hz]
    · rfl
  rw [e, ← EReal.coe_sub, sub_self, ← EReal.coe_sub, sub_self]
  by_cases hf : f.val < 96 <;> by_cases hr : r.val = 0 <;> simp [hf, hr]

include hz in
theorem den_at (i : Fin 256) :
    denK (atAllK k (ztailK z) q) (atK (atAllK k (ztailK z) q)) (ix2 0 i)
      = (((∑ j : Fin 256, if j.val ≤ i.val then ∑ f, K j f * Q i f else 0) + ∑ f, Z f * Q i f : ℝ) : EReal) := by
  rw [denK_at, EReal.coe_add, coe_sum]
  congr 1
  · exact Finset.sum_congr rfl fun j _ => scores_at hk hq _ j i
  · have e : ∀ r : Fin 8, atAllK k (ztailK z) q (ix2 ⟨256 + r.val, by omega⟩ i) = ((if r.val = 0 then ∑ f, Z f * Q i f else 0 : ℝ) : EReal) := by
      intro r
      rw [atAllK_at]
      have := lanes_sum (fun f => ztailK z (ix2 ⟨r.val, by omega⟩ f)) (fun f => q (ix2 f i)) (fun f => if r.val = 0 then Z f else 0) (Q i)
        (fun f => ztail_at hz _ f) (fun f => hq f i)
      refine Eq.trans (Finset.sum_congr rfl fun f _ => ?_) (this.trans ?_)
      · rw [dif_neg (by simp)]
        simp only [Nat.add_sub_cancel_left]
      · by_cases hr : r.val = 0 <;> simp [hr]
    simp only [e, Fin.sum_univ_eight]
    simp

omit hk hq in
theorem pieces_sum (g : Fin 1152 → EReal) (A : Fin 256 → EReal) (B : Fin 128 → EReal)
    (hA : ∀ x : Fin 256, g ⟨x.val, by omega⟩ = A x) (h0 : ∀ x : Fin 512, g ⟨256 + x.val, by omega⟩ = 0)
    (hB : ∀ x : Fin 128, g ⟨768 + x.val, by omega⟩ = B x) (h1 : ∀ x : Fin 256, g ⟨896 + x.val, by omega⟩ = 0) :
    (∑ x, g x) = ∑ x, A x + ∑ x, B x := by
  show (∑ x : Fin (256 + (512 + (128 + 256))), g x) = _
  rw [Fin.sum_univ_add, Fin.sum_univ_add, Fin.sum_univ_add]
  have e0 : (∑ x : Fin 512, g (Fin.natAdd 256 (Fin.castAdd (128 + 256) x))) = 0 := Finset.sum_eq_zero fun x _ => h0 x
  have e1 : (∑ x : Fin 256, g (Fin.natAdd 256 (Fin.natAdd 512 (Fin.natAdd 128 x)))) = 0 := by
    refine Finset.sum_eq_zero fun x _ => (congrArg g (Fin.ext ?_)).trans (h1 x)
    simp; omega
  rw [e0, e1, zero_add, add_zero]
  congr 1
  · exact Finset.sum_congr rfl fun x _ => hA x
  · refine Finset.sum_congr rfl fun x _ => (congrArg g (Fin.ext ?_)).trans (hB x)
    simp; omega

omit hk hq in
theorem select_same (c : BitVec 1) (x y : EReal) (h : x = y) : Scalar.select c x y = y := by
  unfold Scalar.select; split
  · exact h
  · rfl

omit hk hq in
set_option maxHeartbeats 1600000 in
/-- The numerators, when the scores and the state are real: what rounding leaves is zero, so one part of each product counts. -/
theorem numK_at (v : Vec Ideal S1x1x160x256 .bf16) (s : FVec Ideal S160x128 .f32) (a : FVec Ideal S256x256 .f32) (p : FVec Ideal S128x256 .bf16)
    (d : Fin 160) (t : Fin 256) (ha : ∀ j, a (ix2 j t) - a (ix2 j t) = 0) (hs : ∀ f, s (ix2 d f) - s (ix2 d f) = 0) :
    numK v s a p (ix2 d t) = (∑ j : Fin 256, v (ix4 0 0 d j) * a (ix2 j t)) + ∑ f : Fin 128, s (ix2 d f) * p (ix2 f t) := by
  pointwise [numK]
  refine pieces_sum _ _ _ (fun x => ?_) (fun x => ?_) (fun x => ?_) (fun x => ?_)
  · have hx := x.isLt
    rw [dif_pos hx, dif_pos hx]
  · have hx := x.isLt
    by_cases h : x.val < 256
    · rw [dif_neg (by dsimp only; omega), dif_pos (by dsimp only; omega), dif_neg (by dsimp only; omega), dif_pos (by dsimp only; omega),
        select_same _ _ _ (ha _), mul_zero]
    · rw [dif_neg (by dsimp only; omega), dif_neg (by dsimp only; omega), dif_pos (by dsimp only; omega), dif_neg (by dsimp only; omega), dif_neg (by dsimp only; omega), dif_pos (by dsimp only; omega),
        select_same _ _ _ (by rw [ha, sub_zero]), mul_zero]
  · have hx := x.isLt
    rw [dif_neg (by dsimp only; omega), dif_neg (by dsimp only; omega), dif_neg (by dsimp only; omega), dif_pos (by dsimp only; omega),
      dif_neg (by dsimp only; omega), dif_neg (by dsimp only; omega), dif_neg (by dsimp only; omega), dif_pos (by dsimp only; omega)]
    exact congrArg₂ (· * ·) (congrArg s (congrArg (ix2 d) (Fin.ext (by dsimp only; omega))))
      (congrArg p (congrArg (fun f => ix2 f t) (Fin.ext (by dsimp only; omega))))
  · have hx := x.isLt
    by_cases h : x.val < 128
    · rw [dif_neg (by dsimp only; omega), dif_neg (by dsimp only; omega), dif_neg (by dsimp only; omega), dif_neg (by dsimp only; omega), dif_pos (by dsimp only; omega), hs, zero_mul]
    · rw [dif_neg (by dsimp only; omega), dif_neg (by dsimp only; omega), dif_neg (by dsimp only; omega), dif_neg (by dsimp only; omega), dif_neg (by dsimp only; omega), hs, sub_zero, zero_mul]

omit hk hq in
theorem real_sub_self {x : EReal} (r : ℝ) (h : x = (r : EReal)) : x - x = 0 := by
  rw [h, ← EReal.coe_sub, sub_self]; rfl

include hv hs in
theorem num_at (zt : FVec Ideal S16x128 .bf16) (d : Fin 160) (i : Fin 256) :
    numK v (s3K s) (atK (atAllK k zt q)) q (ix2 d i)
      = (((∑ j : Fin 256, (if j.val ≤ i.val then ∑ f, K j f * Q i f else 0) * V j d) + ∑ f, T d f * Q i f : ℝ) : EReal) := by
  have hs3 : ∀ f : Fin 128, s3K s (ix2 d f) = if h : f.val < 96 then ((T d ⟨f.val, h⟩ : ℝ) : EReal) else 0 := by
    intro f; rw [s3K_at]; split
    · rw [hs]
    · rfl
  rw [numK_at _ _ _ _ _ _ (fun j => real_sub_self _ (scores_at hk hq zt j i)), EReal.coe_add, coe_sum]
  · congr 1
    · refine Finset.sum_congr rfl fun j _ => ?_
      rw [hv, scores_at hk hq, EReal.coe_mul, mul_comm]
    · exact lanes_sum _ _ _ _ hs3 fun f => hq f i
  · intro f
    rw [hs3]
    split
    · exact real_sub_self _ rfl
    · exact sub_zero _

omit hq in
include hv in
theorem ds_at (d : Fin 160) (f : Fin 96) :
    dsK v k (ix2 ⟨d.val, by omega⟩ ⟨f.val, by omega⟩) = ((∑ j, K j f * V j d : ℝ) : EReal) := by
  rw [dsK_at, coe_sum]
  refine Finset.sum_congr rfl fun j _ => ?_
  have hd := d.isLt
  have hf := f.isLt
  rw [dif_pos hd, hv, hk, dif_pos hf, EReal.coe_mul, mul_comm]

omit hq in
theorem dz_at (f : Fin 96) :
    dsK v k (ix2 160 ⟨f.val, by omega⟩) = ((∑ j, K j f : ℝ) : EReal) := by
  rw [dsK_at, coe_sum]
  refine Finset.sum_congr rfl fun j _ => ?_
  have hf := f.isLt
  rw [dif_neg (by decide), hk, dif_pos hf, one_mul]

end attention

end Cert.KernelIdeal.Stage
-- ==== Proof.Spec.lean ====
/- What both programs compute of a row of tokens: codes, scales, features. -/
module

public import proofs.«01_k».proof.Proof.Kern

@[expose] public section

noncomputable section

namespace Hedgehog

open Idealize.ShloMosaic

/-- The codes of a row, and its scale. -/
def codeR (x : Fin 160 → EReal) (d : Fin 160) : EReal := code (Ideal.exp2 (0 - expR (amax x))) (x d)
def scaleR (x : Fin 160 → EReal) : EReal := Ideal.exp2 (expR (amax x))

/-- The logits of a row. -/
def logits (x : Fin 160 → EReal) (w : Fin 160 → Fin 48 → EReal) (ws b : Fin 48 → EReal) (f : Fin 48) : EReal :=
  (∑ d, w d f * codeR x d) * scaleR x * ws f + b f

/-- The features of logits: their softmax, and their negatives'. -/
def phiL (L : Fin 48 → EReal) (f : Fin 96) : EReal :=
  if h : f.val < 48 then soft L ⟨f.val, h⟩ else soft (fun g => -L g) ⟨f.val - 48, by omega⟩

theorem phiL_real (L : Fin 48 → EReal) (f : Fin 96) : ∃ r : ℝ, phiL L f = r := by
  unfold phiL; split <;> exact soft_real _ _

/-- The features as real numbers. -/
def phi (x : Fin 160 → EReal) (w : Fin 160 → Fin 48 → EReal) (ws b : Fin 48 → EReal) (f : Fin 96) : ℝ :=
  (phiL_real (logits x w ws b) f).choose

theorem phi_eq (x : Fin 160 → EReal) (w : Fin 160 → Fin 48 → EReal) (ws b : Fin 48 → EReal) (f : Fin 96) :
    phiL (logits x w ws b) f = (phi x w ws b f : EReal) := (phiL_real (logits x w ws b) f).choose_spec

/-- The features of head `h` of batch `b` at token `t`. -/
def Phi (X : (⟨4, ![8, 256, 18, 160]⟩ : Shape).Idx → EReal) (W : (⟨3, ![18, 160, 48]⟩ : Shape).Idx → EReal) (A B : (⟨2, ![18, 48]⟩ : Shape).Idx → EReal)
    (b : Fin 8) (h : Fin 18) (t : Fin 256) (f : Fin 96) : ℝ :=
  phi (fun d => X (ix4 b t h d)) (fun d f => W (ix3 h d f)) (fun f => A (ix2 h f)) (fun f => B (ix2 h f)) f

/-- The causal sums of a token: the numerator with values `V` and state `T`, the denominator with the state sum `Z`. -/
def numS (K Q : Fin 256 → Fin 96 → ℝ) (V : Fin 256 → ℝ) (T : Fin 96 → ℝ) (i : Fin 256) : ℝ :=
  (∑ j : Fin 256, (if j.val ≤ i.val then ∑ f, K j f * Q i f else 0) * V j) + ∑ f, T f * Q i f
def denS (K Q : Fin 256 → Fin 96 → ℝ) (Z : Fin 96 → ℝ) (i : Fin 256) : ℝ :=
  (∑ j : Fin 256, if j.val ≤ i.val then ∑ f, K j f * Q i f else 0) + ∑ f, Z f * Q i f

end Hedgehog
-- ==== Proof.KernOut.lean ====
/- What the kernel body leaves in each output block, as the stages of each batch's loads. -/
module

public import proofs.«01_k».proof.Proof.Kern
public import proofs.«01_k».proof.Proof.Gen.KernelIdeal.Frame
public import Idealize.ShloMosaic.Lib.WholeRead

@[expose] public section

set_option maxRecDepth 16384

noncomputable section

namespace Cert.KernelIdeal.Stage

open Idealize.ShloMosaic Idealize.ShloMosaic.TcCoe Cert.KernelIdeal.Gen Hedgehog

/-- The features of a block of rows, in 128 lanes. -/
def feat (x : Vec Ideal S1x1x160x256 .bf16) (w : Vec Ideal S1x48x160 .fp8e4m3) (ws b : Vec Ideal S1x48 .f32) : FVec Ideal S128x256 .bf16 :=
  featK
    (posK (logitK (shapeCast S48x160 w shapeCasts_S1x48x160_S48x160) (codesK x (ivK (biasK (amaxK x)))) (scK (biasK (amaxK x))) (colK ws) (colK b)))
    (negK (logitK (shapeCast S48x160 w shapeCasts_S1x48x160_S48x160) (codesK x (ivK (biasK (amaxK x)))) (scK (biasK (amaxK x))) (colK ws) (colK b)))

/-- The output block of a batch, from the features. -/
def yOf (q k : FVec Ideal S128x256 .bf16) (v : Vec Ideal S1x1x160x256 .bf16) (s : Vec Ideal S1x1x160x96 .f32) (z : Vec Ideal S1x1x96 .f32) :
    FVec Ideal S1x1x160x256 .bf16 :=
  outK (numK v (s3K s) (atK (atAllK k (ztailK z) q)) q) (denK (atAllK k (ztailK z) q) (atK (atAllK k (ztailK z) q)))

/-- Batch `b`'s block of an operand. -/
def rowB {e : EltTy} (X : Vec Ideal S8x1x160x256 e) (b : Fin 8) : Vec Ideal S1x1x160x256 e := fun x => X (ix4 b 0 (x 2) (x 3))
def rowS (X : Vec Ideal S8x1x160x96 .f32) (b : Fin 8) : Vec Ideal S1x1x160x96 .f32 := fun x => X (ix4 b 0 (x 2) (x 3))
def rowZ (X : Vec Ideal S1x8x96 .f32) (b : Fin 8) : Vec Ideal S1x1x96 .f32 := fun x => X (ix3 0 b (x 2))
/-- The grid point's head's row of a table. -/
def headRow (X : Vec Ideal S18x48 .f32) (i : grid0.Coords) : Vec Ideal S1x48 .f32 := fun x => X (ix2 (i 0) (x 1))

theorem ldB {sp : Space} {e : EltTy} {m : Memref sig .tc sp S8x1x160x256 e} (h : m.IsWhole) (X : Vec Ideal S8x1x160x256 e) (b : ℕ) (hb : b < 8)
    (inb : ∀ a, (![b, 0, 0, 0] : Fin 4 → ℕ) a + S1x1x160x256.size a ≤ S8x1x160x256.size a) :
    View.readAt (Elt Ideal) m.view (Rect.unit (s := S8x1x160x256) ![b, 0, 0, 0] S1x1x160x256.size inb).toLoadRect (h.unread X) = rowB X ⟨b, hb⟩ := by
  funext x
  rw [h.readAt_unread]
  refine congrArg X (funext fun a => Fin.ext ?_)
  idx_vars x
  fin_cases a <;> simp [LoadRect.idx]

theorem ldS {sp : Space} {m : Memref sig .tc sp S8x1x160x96 .f32} (h : m.IsWhole) (X : Vec Ideal S8x1x160x96 .f32) (b : ℕ) (hb : b < 8)
    (inb : ∀ a, (![b, 0, 0, 0] : Fin 4 → ℕ) a + S1x1x160x96.size a ≤ S8x1x160x96.size a) :
    View.readAt (Elt Ideal) m.view (Rect.unit (s := S8x1x160x96) ![b, 0, 0, 0] S1x1x160x96.size inb).toLoadRect (h.unread X) = rowS X ⟨b, hb⟩ := by
  funext x
  rw [h.readAt_unread]
  refine congrArg X (funext fun a => Fin.ext ?_)
  idx_vars x
  fin_cases a <;> simp [LoadRect.idx]

theorem ldZ {sp : Space} {m : Memref sig .tc sp S1x8x96 .f32} (h : m.IsWhole) (X : Vec Ideal S1x8x96 .f32) (b : ℕ) (hb : b < 8)
    (inb : ∀ a, (![0, b, 0] : Fin 3 → ℕ) a + S1x1x96.size a ≤ S1x8x96.size a) :
    View.readAt (Elt Ideal) m.view (Rect.unit (s := S1x8x96) ![0, b, 0] S1x1x96.size inb).toLoadRect (h.unread X) = rowZ X ⟨b, hb⟩ := by
  funext x
  rw [h.readAt_unread]
  refine congrArg X (funext fun a => Fin.ext ?_)
  idx_vars x
  fin_cases a <;> simp [LoadRect.idx]

theorem ldW {sp : Space} {e : EltTy} {m : Memref sig .tc sp S1x48x160 e} (h : m.IsWhole) (X : Vec Ideal S1x48x160 e)
    (inb : ∀ a, (![0, 0, 0] : Fin 3 → ℕ) a + S1x48x160.size a ≤ S1x48x160.size a) :
    View.readAt (Elt Ideal) m.view (Rect.unit (s := S1x48x160) ![0, 0, 0] S1x48x160.size inb).toLoadRect (h.unread X) = X := by
  funext x
  rw [h.readAt_unread]
  refine congrArg X (funext fun a => Fin.ext ?_)
  idx_vars x
  fin_cases a <;> simp [LoadRect.idx]

theorem ldH {sp : Space} {m : Memref sig .tc sp S18x48 .f32} (h : m.IsWhole) (X : Vec Ideal S18x48 .f32) (i : grid0.Coords) :
    View.readAt (Elt Ideal) m.view (Rect.unit (s := S18x48) (k0_off1 i) S1x48.size (k0_off1_inb i)).toLoadRect (h.unread X) = headRow X i := by
  funext x
  rw [h.readAt_unread]
  refine congrArg X (funext fun a => Fin.ext ?_)
  have e := k0_off1_eq i
  idx_vars x
  fin_cases a <;> simp [LoadRect.idx, e]

theorem inB (b : ℕ) (hb : b < 8) : ∀ a, (![b, 0, 0, 0] : Fin 4 → ℕ) a + S1x1x160x256.size a ≤ S8x1x160x256.size a := by
  intro a; fin_cases a <;> simp [S1x1x160x256, S8x1x160x256] <;> omega
theorem inS (b : ℕ) (hb : b < 8) : ∀ a, (![b, 0, 0, 0] : Fin 4 → ℕ) a + S1x1x160x96.size a ≤ S8x1x160x96.size a := by
  intro a; fin_cases a <;> simp [S1x1x160x96, S8x1x160x96] <;> omega
theorem inZ (b : ℕ) (hb : b < 8) : ∀ a, (![0, b, 0] : Fin 3 → ℕ) a + S1x1x96.size a ≤ S1x8x96.size a := by
  intro a; fin_cases a <;> simp [S1x1x96, S1x8x96] <;> omega
theorem inR (b : ℕ) (hb : b < 8) : ∀ a, (![0, b, 0] : Fin 3 → ℕ) a + S1x1x256.size a ≤ S1x8x256.size a := by
  intro a; fin_cases a <;> simp [S1x1x256, S1x8x256] <;> omega
theorem inW : ∀ a, (![0, 0, 0] : Fin 3 → ℕ) a + S1x48x160.size a ≤ S1x48x160.size a := by
  intro a; fin_cases a <;> simp [S1x48x160]

/-- Batch `b`'s block as the body loads it. -/
abbrev gB {sp : Space} {e : EltTy} {m : Memref sig .tc sp S8x1x160x256 e} (h : m.IsWhole) (X : Vec Ideal S8x1x160x256 e) (b : ℕ) (hb : b < 8) : Vec Ideal S1x1x160x256 e :=
  View.readAt (Elt Ideal) m.view (Rect.unit (s := S8x1x160x256) ![b, 0, 0, 0] S1x1x160x256.size (inB b hb)).toLoadRect (h.unread X)
abbrev gS {sp : Space} {m : Memref sig .tc sp S8x1x160x96 .f32} (h : m.IsWhole) (X : Vec Ideal S8x1x160x96 .f32) (b : ℕ) (hb : b < 8) : Vec Ideal S1x1x160x96 .f32 :=
  View.readAt (Elt Ideal) m.view (Rect.unit (s := S8x1x160x96) ![b, 0, 0, 0] S1x1x160x96.size (inS b hb)).toLoadRect (h.unread X)
abbrev gZ {sp : Space} {m : Memref sig .tc sp S1x8x96 .f32} (h : m.IsWhole) (X : Vec Ideal S1x8x96 .f32) (b : ℕ) (hb : b < 8) : Vec Ideal S1x1x96 .f32 :=
  View.readAt (Elt Ideal) m.view (Rect.unit (s := S1x8x96) ![0, b, 0] S1x1x96.size (inZ b hb)).toLoadRect (h.unread X)
abbrev gW {sp : Space} {e : EltTy} {m : Memref sig .tc sp S1x48x160 e} (h : m.IsWhole) (X : Vec Ideal S1x48x160 e) : Vec Ideal S1x48x160 e :=
  View.readAt (Elt Ideal) m.view (Rect.unit (s := S1x48x160) ![0, 0, 0] S1x48x160.size inW).toLoadRect (h.unread X)
abbrev gH {sp : Space} {m : Memref sig .tc sp S18x48 .f32} (h : m.IsWhole) (X : Vec Ideal S18x48 .f32) (i : grid0.Coords) : Vec Ideal S1x48 .f32 :=
  View.readAt (Elt Ideal) m.view (Rect.unit (s := S18x48) (k0_off1 i) S1x48.size (k0_off1_inb i)).toLoadRect (h.unread X)

/-- The quantised codes of a block, and its scales. -/
def codeOf (x : Vec Ideal S1x1x160x256 .bf16) : FVec Ideal S1x1x160x256 .fp8e4m3 := qcK (codesK x (ivK (biasK (amaxK x))))
def scaleOf (x : Vec Ideal S1x1x160x256 .bf16) : FVec Ideal S1x1x256 .f32 := qsK (scK (biasK (amaxK x)))

theorem embB {α : Type*} (G : Fin 8 → S1x1x160x256.Idx → α) (b : ℕ) (hb : b < 8) (x : S1x1x160x256.Idx) :
    G ⟨b, hb⟩ x = (fun y : S8x1x160x256.Idx => G (y 0) (ix4 0 0 (y 2) (y 3))) ((Rect.unit (s := S8x1x160x256) ![b, 0, 0, 0] S1x1x160x256.size (inB b hb)).emb x) := by
  idx_vars x
  refine congrArg₂ (fun B => G B) (Fin.ext ?_) (funext fun a => Fin.ext ?_)
  · simp
  · fin_cases a <;> simp

theorem embS {α : Type*} (G : Fin 8 → S1x1x160x96.Idx → α) (b : ℕ) (hb : b < 8) (x : S1x1x160x96.Idx) :
    G ⟨b, hb⟩ x = (fun y : S8x1x160x96.Idx => G (y 0) (ix4 0 0 (y 2) (y 3))) ((Rect.unit (s := S8x1x160x96) ![b, 0, 0, 0] S1x1x160x96.size (inS b hb)).emb x) := by
  idx_vars x
  refine congrArg₂ (fun B => G B) (Fin.ext ?_) (funext fun a => Fin.ext ?_)
  · simp
  · fin_cases a <;> simp

theorem embZ {α : Type*} (G : Fin 8 → S1x1x96.Idx → α) (b : ℕ) (hb : b < 8) (x : S1x1x96.Idx) :
    G ⟨b, hb⟩ x = (fun y : S1x8x96.Idx => G (y 1) (ix3 0 0 (y 2))) ((Rect.unit (s := S1x8x96) ![0, b, 0] S1x1x96.size (inZ b hb)).emb x) := by
  idx_vars x
  refine congrArg₂ (fun B => G B) (Fin.ext ?_) (funext fun a => Fin.ext ?_)
  · simp
  · fin_cases a <;> simp

theorem embR {α : Type*} (G : Fin 8 → S1x1x256.Idx → α) (b : ℕ) (hb : b < 8) (x : S1x1x256.Idx) :
    G ⟨b, hb⟩ x = (fun y : S1x8x256.Idx => G (y 1) (ix3 0 0 (y 2))) ((Rect.unit (s := S1x8x256) ![0, b, 0] S1x1x256.size (inR b hb)).emb x) := by
  idx_vars x
  refine congrArg₂ (fun B => G B) (Fin.ext ?_) (funext fun a => Fin.ext ?_)
  · simp
  · fin_cases a <;> simp

/-- What output 11's block holds of batch `b`, from the input blocks. -/
def val11 (i : grid0.Coords) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32) (b : Fin 8) : FVec Ideal S1x1x160x256 .bf16 :=
  yOf (feat (rowB x0 b) x3 (headRow x4 i) (headRow x7 i)) (feat (rowB x1 b) x5 (headRow x6 i) (headRow x8 i)) (rowB x2 b) (rowS x9 b) (rowZ x10 b)

/-- What output 12's block holds of batch `b`, from the input blocks. -/
def val12 (i : grid0.Coords) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32) (b : Fin 8) : FVec Ideal S1x1x160x96 .f32 :=
  sfK (rowS x9 b) (dsK (rowB x2 b) (feat (rowB x1 b) x5 (headRow x6 i) (headRow x8 i)))

/-- What output 13's block holds of batch `b`, from the input blocks. -/
def val13 (i : grid0.Coords) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32) (b : Fin 8) : FVec Ideal S1x1x96 .f32 :=
  zfK (rowZ x10 b) (dsK (rowB x2 b) (feat (rowB x1 b) x5 (headRow x6 i) (headRow x8 i)))

/-- What output 14's block holds of batch `b`, from the input blocks. -/
def val14 (i : grid0.Coords) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32) (b : Fin 8) : FVec Ideal S1x1x160x256 .fp8e4m3 :=
  codeOf (rowB x0 b)

/-- What output 15's block holds of batch `b`, from the input blocks. -/
def val15 (i : grid0.Coords) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32) (b : Fin 8) : FVec Ideal S1x1x256 .f32 :=
  scaleOf (rowB x0 b)

/-- What output 16's block holds of batch `b`, from the input blocks. -/
def val16 (i : grid0.Coords) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32) (b : Fin 8) : FVec Ideal S1x1x160x256 .fp8e4m3 :=
  codeOf (rowB x1 b)

/-- What output 17's block holds of batch `b`, from the input blocks. -/
def val17 (i : grid0.Coords) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32) (b : Fin 8) : FVec Ideal S1x1x256 .f32 :=
  scaleOf (rowB x1 b)

section
variable {c : Dev nD} {i : grid0.Coords} {arg1 : Memref sig .tc .vmem S8x1x160x256 .bf16} {harg1 : arg1.IsWhole} {arg2 : Memref sig .tc .vmem S8x1x160x256 .bf16} {harg2 : arg2.IsWhole} {arg3 : Memref sig .tc .vmem S8x1x160x256 .bf16} {harg3 : arg3.IsWhole} {arg4 : Memref sig .tc .vmem S1x48x160 .fp8e4m3} {harg4 : arg4.IsWhole} {arg5 : Memref sig .tc .vmem S18x48 .f32} {harg5 : arg5.IsWhole} {arg6 : Memref sig .tc .vmem S1x48x160 .fp8e4m3} {harg6 : arg6.IsWhole} {arg7 : Memref sig .tc .vmem S18x48 .f32} {harg7 : arg7.IsWhole} {arg8 : Memref sig .tc .vmem S18x48 .f32} {harg8 : arg8.IsWhole} {arg9 : Memref sig .tc .vmem S18x48 .f32} {harg9 : arg9.IsWhole} {arg10 : Memref sig .tc .vmem S8x1x160x96 .f32} {harg10 : arg10.IsWhole} {arg11 : Memref sig .tc .vmem S1x8x96 .f32} {harg11 : arg11.IsWhole} {arg12 : Memref sig .tc .vmem S8x1x160x256 .bf16} {harg12 : arg12.IsWhole} {arg13 : Memref sig .tc .vmem S8x1x160x96 .f32} {harg13 : arg13.IsWhole} {arg14 : Memref sig .tc .vmem S1x8x96 .f32} {harg14 : arg14.IsWhole} {arg15 : Memref sig .tc .vmem S8x1x160x256 .fp8e4m3} {harg15 : arg15.IsWhole} {arg16 : Memref sig .tc .vmem S1x8x256 .f32} {harg16 : arg16.IsWhole} {arg17 : Memref sig .tc .vmem S8x1x160x256 .fp8e4m3} {harg17 : arg17.IsWhole} {arg18 : Memref sig .tc .vmem S1x8x256 .f32} {harg18 : arg18.IsWhole} {x0 : Vec Ideal S8x1x160x256 .bf16} {x1 : Vec Ideal S8x1x160x256 .bf16} {x2 : Vec Ideal S8x1x160x256 .bf16} {x3 : Vec Ideal S1x48x160 .fp8e4m3} {x4 : Vec Ideal S18x48 .f32} {x5 : Vec Ideal S1x48x160 .fp8e4m3} {x6 : Vec Ideal S18x48 .f32} {x7 : Vec Ideal S18x48 .f32} {x8 : Vec Ideal S18x48 .f32} {x9 : Vec Ideal S8x1x160x96 .f32} {x10 : Vec Ideal S1x8x96 .f32}

theorem raw11 (b : ℕ) (hb : b < 8) : yOf (feat (gB harg1 x0 b hb) (gW harg4 x3) (gH harg5 x4 i) (gH harg8 x7 i)) (feat (gB harg2 x1 b hb) (gW harg6 x5) (gH harg7 x6 i) (gH harg9 x8 i)) (gB harg3 x2 b hb) (gS harg10 x9 b hb) (gZ harg11 x10 b hb) = val11 i x0 x1 x2 x3 x4 x5 x6 x7 x8 x9 x10 ⟨b, hb⟩ := by
  simp only [ldB _ _ _ hb, ldS _ _ _ hb, ldZ _ _ _ hb, ldW, ldH]; rfl

end

section
variable (c : Dev nD) (i : grid0.Coords) (arg1 : Memref sig .tc .vmem S8x1x160x256 .bf16) (harg1 : arg1.IsWhole) (arg2 : Memref sig .tc .vmem S8x1x160x256 .bf16) (harg2 : arg2.IsWhole) (arg3 : Memref sig .tc .vmem S8x1x160x256 .bf16) (harg3 : arg3.IsWhole) (arg4 : Memref sig .tc .vmem S1x48x160 .fp8e4m3) (harg4 : arg4.IsWhole) (arg5 : Memref sig .tc .vmem S18x48 .f32) (harg5 : arg5.IsWhole) (arg6 : Memref sig .tc .vmem S1x48x160 .fp8e4m3) (harg6 : arg6.IsWhole) (arg7 : Memref sig .tc .vmem S18x48 .f32) (harg7 : arg7.IsWhole) (arg8 : Memref sig .tc .vmem S18x48 .f32) (harg8 : arg8.IsWhole) (arg9 : Memref sig .tc .vmem S18x48 .f32) (harg9 : arg9.IsWhole) (arg10 : Memref sig .tc .vmem S8x1x160x96 .f32) (harg10 : arg10.IsWhole) (arg11 : Memref sig .tc .vmem S1x8x96 .f32) (harg11 : arg11.IsWhole) (arg12 : Memref sig .tc .vmem S8x1x160x256 .bf16) (harg12 : arg12.IsWhole) (arg13 : Memref sig .tc .vmem S8x1x160x96 .f32) (harg13 : arg13.IsWhole) (arg14 : Memref sig .tc .vmem S1x8x96 .f32) (harg14 : arg14.IsWhole) (arg15 : Memref sig .tc .vmem S8x1x160x256 .fp8e4m3) (harg15 : arg15.IsWhole) (arg16 : Memref sig .tc .vmem S1x8x256 .f32) (harg16 : arg16.IsWhole) (arg17 : Memref sig .tc .vmem S8x1x160x256 .fp8e4m3) (harg17 : arg17.IsWhole) (arg18 : Memref sig .tc .vmem S1x8x256 .f32) (harg18 : arg18.IsWhole) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32)

theorem list11 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).1 =
    [⟨Rect.unit (s := S8x1x160x256) ![7, 0, 0, 0] S1x1x160x256.size (inB 7 (by decide)), yOf (feat (gB harg1 x0 7 (by decide)) (gW harg4 x3) (gH harg5 x4 i) (gH harg8 x7 i)) (feat (gB harg2 x1 7 (by decide)) (gW harg6 x5) (gH harg7 x6 i) (gH harg9 x8 i)) (gB harg3 x2 7 (by decide)) (gS harg10 x9 7 (by decide)) (gZ harg11 x10 7 (by decide))⟩, ⟨Rect.unit (s := S8x1x160x256) ![6, 0, 0, 0] S1x1x160x256.size (inB 6 (by decide)), yOf (feat (gB harg1 x0 6 (by decide)) (gW harg4 x3) (gH harg5 x4 i) (gH harg8 x7 i)) (feat (gB harg2 x1 6 (by decide)) (gW harg6 x5) (gH harg7 x6 i) (gH harg9 x8 i)) (gB harg3 x2 6 (by decide)) (gS harg10 x9 6 (by decide)) (gZ harg11 x10 6 (by decide))⟩, ⟨Rect.unit (s := S8x1x160x256) ![5, 0, 0, 0] S1x1x160x256.size (inB 5 (by decide)), yOf (feat (gB harg1 x0 5 (by decide)) (gW harg4 x3) (gH harg5 x4 i) (gH harg8 x7 i)) (feat (gB harg2 x1 5 (by decide)) (gW harg6 x5) (gH harg7 x6 i) (gH harg9 x8 i)) (gB harg3 x2 5 (by decide)) (gS harg10 x9 5 (by decide)) (gZ harg11 x10 5 (by decide))⟩, ⟨Rect.unit (s := S8x1x160x256) ![4, 0, 0, 0] S1x1x160x256.size (inB 4 (by decide)), yOf (feat (gB harg1 x0 4 (by decide)) (gW harg4 x3) (gH harg5 x4 i) (gH harg8 x7 i)) (feat (gB harg2 x1 4 (by decide)) (gW harg6 x5) (gH harg7 x6 i) (gH harg9 x8 i)) (gB harg3 x2 4 (by decide)) (gS harg10 x9 4 (by decide)) (gZ harg11 x10 4 (by decide))⟩, ⟨Rect.unit (s := S8x1x160x256) ![3, 0, 0, 0] S1x1x160x256.size (inB 3 (by decide)), yOf (feat (gB harg1 x0 3 (by decide)) (gW harg4 x3) (gH harg5 x4 i) (gH harg8 x7 i)) (feat (gB harg2 x1 3 (by decide)) (gW harg6 x5) (gH harg7 x6 i) (gH harg9 x8 i)) (gB harg3 x2 3 (by decide)) (gS harg10 x9 3 (by decide)) (gZ harg11 x10 3 (by decide))⟩, ⟨Rect.unit (s := S8x1x160x256) ![2, 0, 0, 0] S1x1x160x256.size (inB 2 (by decide)), yOf (feat (gB harg1 x0 2 (by decide)) (gW harg4 x3) (gH harg5 x4 i) (gH harg8 x7 i)) (feat (gB harg2 x1 2 (by decide)) (gW harg6 x5) (gH harg7 x6 i) (gH harg9 x8 i)) (gB harg3 x2 2 (by decide)) (gS harg10 x9 2 (by decide)) (gZ harg11 x10 2 (by decide))⟩, ⟨Rect.unit (s := S8x1x160x256) ![1, 0, 0, 0] S1x1x160x256.size (inB 1 (by decide)), yOf (feat (gB harg1 x0 1 (by decide)) (gW harg4 x3) (gH harg5 x4 i) (gH harg8 x7 i)) (feat (gB harg2 x1 1 (by decide)) (gW harg6 x5) (gH harg7 x6 i) (gH harg9 x8 i)) (gB harg3 x2 1 (by decide)) (gS harg10 x9 1 (by decide)) (gZ harg11 x10 1 (by decide))⟩, ⟨Rect.unit (s := S8x1x160x256) ![0, 0, 0, 0] S1x1x160x256.size (inB 0 (by decide)), yOf (feat (gB harg1 x0 0 (by decide)) (gW harg4 x3) (gH harg5 x4 i) (gH harg8 x7 i)) (feat (gB harg2 x1 0 (by decide)) (gW harg6 x5) (gH harg7 x6 i) (gH harg9 x8 i)) (gB harg3 x2 0 (by decide)) (gS harg10 x9 0 (by decide)) (gZ harg11 x10 0 (by decide))⟩] := rfl

theorem out11 (y : S8x1x160x256.Idx) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y = val11 i x0 x1 x2 x3 x4 x5 x6 x7 x8 x9 x10 (y 0) (ix4 0 0 (y 2) (y 3)) := by
  refine View.read_writes_apply_of_pieces (v := VO0_11) (f := VO0_11.junk) (Val := Elt Ideal) (fun y : S8x1x160x256.Idx => val11 i x0 x1 x2 x3 x4 x5 x6 x7 x8 x9 x10 (y 0) (ix4 0 0 (y 2) (y 3))) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y)
  rw [list11]
  simp only [List.forall_mem_cons, List.forall_mem_nil, and_true]
  exact ⟨fun x => (congrFun (raw11 7 (by decide)) x).trans (embB (val11 i x0 x1 x2 x3 x4 x5 x6 x7 x8 x9 x10) 7 (by decide) x), fun x => (congrFun (raw11 6 (by decide)) x).trans (embB (val11 i x0 x1 x2 x3 x4 x5 x6 x7 x8 x9 x10) 6 (by decide) x), fun x => (congrFun (raw11 5 (by decide)) x).trans (embB (val11 i x0 x1 x2 x3 x4 x5 x6 x7 x8 x9 x10) 5 (by decide) x), fun x => (congrFun (raw11 4 (by decide)) x).trans (embB (val11 i x0 x1 x2 x3 x4 x5 x6 x7 x8 x9 x10) 4 (by decide) x), fun x => (congrFun (raw11 3 (by decide)) x).trans (embB (val11 i x0 x1 x2 x3 x4 x5 x6 x7 x8 x9 x10) 3 (by decide) x), fun x => (congrFun (raw11 2 (by decide)) x).trans (embB (val11 i x0 x1 x2 x3 x4 x5 x6 x7 x8 x9 x10) 2 (by decide) x), fun x => (congrFun (raw11 1 (by decide)) x).trans (embB (val11 i x0 x1 x2 x3 x4 x5 x6 x7 x8 x9 x10) 1 (by decide) x), fun x => (congrFun (raw11 0 (by decide)) x).trans (embB (val11 i x0 x1 x2 x3 x4 x5 x6 x7 x8 x9 x10) 0 (by decide) x), fun _ h => absurd h List.not_mem_nil⟩

end

section
variable {c : Dev nD} {i : grid0.Coords} {arg1 : Memref sig .tc .vmem S8x1x160x256 .bf16} {harg1 : arg1.IsWhole} {arg2 : Memref sig .tc .vmem S8x1x160x256 .bf16} {harg2 : arg2.IsWhole} {arg3 : Memref sig .tc .vmem S8x1x160x256 .bf16} {harg3 : arg3.IsWhole} {arg4 : Memref sig .tc .vmem S1x48x160 .fp8e4m3} {harg4 : arg4.IsWhole} {arg5 : Memref sig .tc .vmem S18x48 .f32} {harg5 : arg5.IsWhole} {arg6 : Memref sig .tc .vmem S1x48x160 .fp8e4m3} {harg6 : arg6.IsWhole} {arg7 : Memref sig .tc .vmem S18x48 .f32} {harg7 : arg7.IsWhole} {arg8 : Memref sig .tc .vmem S18x48 .f32} {harg8 : arg8.IsWhole} {arg9 : Memref sig .tc .vmem S18x48 .f32} {harg9 : arg9.IsWhole} {arg10 : Memref sig .tc .vmem S8x1x160x96 .f32} {harg10 : arg10.IsWhole} {arg11 : Memref sig .tc .vmem S1x8x96 .f32} {harg11 : arg11.IsWhole} {arg12 : Memref sig .tc .vmem S8x1x160x256 .bf16} {harg12 : arg12.IsWhole} {arg13 : Memref sig .tc .vmem S8x1x160x96 .f32} {harg13 : arg13.IsWhole} {arg14 : Memref sig .tc .vmem S1x8x96 .f32} {harg14 : arg14.IsWhole} {arg15 : Memref sig .tc .vmem S8x1x160x256 .fp8e4m3} {harg15 : arg15.IsWhole} {arg16 : Memref sig .tc .vmem S1x8x256 .f32} {harg16 : arg16.IsWhole} {arg17 : Memref sig .tc .vmem S8x1x160x256 .fp8e4m3} {harg17 : arg17.IsWhole} {arg18 : Memref sig .tc .vmem S1x8x256 .f32} {harg18 : arg18.IsWhole} {x0 : Vec Ideal S8x1x160x256 .bf16} {x1 : Vec Ideal S8x1x160x256 .bf16} {x2 : Vec Ideal S8x1x160x256 .bf16} {x3 : Vec Ideal S1x48x160 .fp8e4m3} {x4 : Vec Ideal S18x48 .f32} {x5 : Vec Ideal S1x48x160 .fp8e4m3} {x6 : Vec Ideal S18x48 .f32} {x7 : Vec Ideal S18x48 .f32} {x8 : Vec Ideal S18x48 .f32} {x9 : Vec Ideal S8x1x160x96 .f32} {x10 : Vec Ideal S1x8x96 .f32}

theorem raw12 (b : ℕ) (hb : b < 8) : sfK (gS harg10 x9 b hb) (dsK (gB harg3 x2 b hb) (feat (gB harg2 x1 b hb) (gW harg6 x5) (gH harg7 x6 i) (gH harg9 x8 i))) = val12 i x0 x1 x2 x3 x4 x5 x6 x7 x8 x9 x10 ⟨b, hb⟩ := by
  simp only [ldB _ _ _ hb, ldS _ _ _ hb, ldZ _ _ _ hb, ldW, ldH]; rfl

end

section
variable (c : Dev nD) (i : grid0.Coords) (arg1 : Memref sig .tc .vmem S8x1x160x256 .bf16) (harg1 : arg1.IsWhole) (arg2 : Memref sig .tc .vmem S8x1x160x256 .bf16) (harg2 : arg2.IsWhole) (arg3 : Memref sig .tc .vmem S8x1x160x256 .bf16) (harg3 : arg3.IsWhole) (arg4 : Memref sig .tc .vmem S1x48x160 .fp8e4m3) (harg4 : arg4.IsWhole) (arg5 : Memref sig .tc .vmem S18x48 .f32) (harg5 : arg5.IsWhole) (arg6 : Memref sig .tc .vmem S1x48x160 .fp8e4m3) (harg6 : arg6.IsWhole) (arg7 : Memref sig .tc .vmem S18x48 .f32) (harg7 : arg7.IsWhole) (arg8 : Memref sig .tc .vmem S18x48 .f32) (harg8 : arg8.IsWhole) (arg9 : Memref sig .tc .vmem S18x48 .f32) (harg9 : arg9.IsWhole) (arg10 : Memref sig .tc .vmem S8x1x160x96 .f32) (harg10 : arg10.IsWhole) (arg11 : Memref sig .tc .vmem S1x8x96 .f32) (harg11 : arg11.IsWhole) (arg12 : Memref sig .tc .vmem S8x1x160x256 .bf16) (harg12 : arg12.IsWhole) (arg13 : Memref sig .tc .vmem S8x1x160x96 .f32) (harg13 : arg13.IsWhole) (arg14 : Memref sig .tc .vmem S1x8x96 .f32) (harg14 : arg14.IsWhole) (arg15 : Memref sig .tc .vmem S8x1x160x256 .fp8e4m3) (harg15 : arg15.IsWhole) (arg16 : Memref sig .tc .vmem S1x8x256 .f32) (harg16 : arg16.IsWhole) (arg17 : Memref sig .tc .vmem S8x1x160x256 .fp8e4m3) (harg17 : arg17.IsWhole) (arg18 : Memref sig .tc .vmem S1x8x256 .f32) (harg18 : arg18.IsWhole) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32)

theorem list12 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.1 =
    [⟨Rect.unit (s := S8x1x160x96) ![7, 0, 0, 0] S1x1x160x96.size (inS 7 (by decide)), sfK (gS harg10 x9 7 (by decide)) (dsK (gB harg3 x2 7 (by decide)) (feat (gB harg2 x1 7 (by decide)) (gW harg6 x5) (gH harg7 x6 i) (gH harg9 x8 i)))⟩, ⟨Rect.unit (s := S8x1x160x96) ![6, 0, 0, 0] S1x1x160x96.size (inS 6 (by decide)), sfK (gS harg10 x9 6 (by decide)) (dsK (gB harg3 x2 6 (by decide)) (feat (gB harg2 x1 6 (by decide)) (gW harg6 x5) (gH harg7 x6 i) (gH harg9 x8 i)))⟩, ⟨Rect.unit (s := S8x1x160x96) ![5, 0, 0, 0] S1x1x160x96.size (inS 5 (by decide)), sfK (gS harg10 x9 5 (by decide)) (dsK (gB harg3 x2 5 (by decide)) (feat (gB harg2 x1 5 (by decide)) (gW harg6 x5) (gH harg7 x6 i) (gH harg9 x8 i)))⟩, ⟨Rect.unit (s := S8x1x160x96) ![4, 0, 0, 0] S1x1x160x96.size (inS 4 (by decide)), sfK (gS harg10 x9 4 (by decide)) (dsK (gB harg3 x2 4 (by decide)) (feat (gB harg2 x1 4 (by decide)) (gW harg6 x5) (gH harg7 x6 i) (gH harg9 x8 i)))⟩, ⟨Rect.unit (s := S8x1x160x96) ![3, 0, 0, 0] S1x1x160x96.size (inS 3 (by decide)), sfK (gS harg10 x9 3 (by decide)) (dsK (gB harg3 x2 3 (by decide)) (feat (gB harg2 x1 3 (by decide)) (gW harg6 x5) (gH harg7 x6 i) (gH harg9 x8 i)))⟩, ⟨Rect.unit (s := S8x1x160x96) ![2, 0, 0, 0] S1x1x160x96.size (inS 2 (by decide)), sfK (gS harg10 x9 2 (by decide)) (dsK (gB harg3 x2 2 (by decide)) (feat (gB harg2 x1 2 (by decide)) (gW harg6 x5) (gH harg7 x6 i) (gH harg9 x8 i)))⟩, ⟨Rect.unit (s := S8x1x160x96) ![1, 0, 0, 0] S1x1x160x96.size (inS 1 (by decide)), sfK (gS harg10 x9 1 (by decide)) (dsK (gB harg3 x2 1 (by decide)) (feat (gB harg2 x1 1 (by decide)) (gW harg6 x5) (gH harg7 x6 i) (gH harg9 x8 i)))⟩, ⟨Rect.unit (s := S8x1x160x96) ![0, 0, 0, 0] S1x1x160x96.size (inS 0 (by decide)), sfK (gS harg10 x9 0 (by decide)) (dsK (gB harg3 x2 0 (by decide)) (feat (gB harg2 x1 0 (by decide)) (gW harg6 x5) (gH harg7 x6 i) (gH harg9 x8 i)))⟩] := rfl

theorem out12 (y : S8x1x160x96.Idx) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y = val12 i x0 x1 x2 x3 x4 x5 x6 x7 x8 x9 x10 (y 0) (ix4 0 0 (y 2) (y 3)) := by
  refine View.read_writes_apply_of_pieces (v := VO0_12) (f := VO0_12.junk) (Val := Elt Ideal) (fun y : S8x1x160x96.Idx => val12 i x0 x1 x2 x3 x4 x5 x6 x7 x8 x9 x10 (y 0) (ix4 0 0 (y 2) (y 3))) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y)
  rw [list12]
  simp only [List.forall_mem_cons, List.forall_mem_nil, and_true]
  exact ⟨fun x => (congrFun (raw12 7 (by decide)) x).trans (embS (val12 i x0 x1 x2 x3 x4 x5 x6 x7 x8 x9 x10) 7 (by decide) x), fun x => (congrFun (raw12 6 (by decide)) x).trans (embS (val12 i x0 x1 x2 x3 x4 x5 x6 x7 x8 x9 x10) 6 (by decide) x), fun x => (congrFun (raw12 5 (by decide)) x).trans (embS (val12 i x0 x1 x2 x3 x4 x5 x6 x7 x8 x9 x10) 5 (by decide) x), fun x => (congrFun (raw12 4 (by decide)) x).trans (embS (val12 i x0 x1 x2 x3 x4 x5 x6 x7 x8 x9 x10) 4 (by decide) x), fun x => (congrFun (raw12 3 (by decide)) x).trans (embS (val12 i x0 x1 x2 x3 x4 x5 x6 x7 x8 x9 x10) 3 (by decide) x), fun x => (congrFun (raw12 2 (by decide)) x).trans (embS (val12 i x0 x1 x2 x3 x4 x5 x6 x7 x8 x9 x10) 2 (by decide) x), fun x => (congrFun (raw12 1 (by decide)) x).trans (embS (val12 i x0 x1 x2 x3 x4 x5 x6 x7 x8 x9 x10) 1 (by decide) x), fun x => (congrFun (raw12 0 (by decide)) x).trans (embS (val12 i x0 x1 x2 x3 x4 x5 x6 x7 x8 x9 x10) 0 (by decide) x), fun _ h => absurd h List.not_mem_nil⟩

end

section
variable {c : Dev nD} {i : grid0.Coords} {arg1 : Memref sig .tc .vmem S8x1x160x256 .bf16} {harg1 : arg1.IsWhole} {arg2 : Memref sig .tc .vmem S8x1x160x256 .bf16} {harg2 : arg2.IsWhole} {arg3 : Memref sig .tc .vmem S8x1x160x256 .bf16} {harg3 : arg3.IsWhole} {arg4 : Memref sig .tc .vmem S1x48x160 .fp8e4m3} {harg4 : arg4.IsWhole} {arg5 : Memref sig .tc .vmem S18x48 .f32} {harg5 : arg5.IsWhole} {arg6 : Memref sig .tc .vmem S1x48x160 .fp8e4m3} {harg6 : arg6.IsWhole} {arg7 : Memref sig .tc .vmem S18x48 .f32} {harg7 : arg7.IsWhole} {arg8 : Memref sig .tc .vmem S18x48 .f32} {harg8 : arg8.IsWhole} {arg9 : Memref sig .tc .vmem S18x48 .f32} {harg9 : arg9.IsWhole} {arg10 : Memref sig .tc .vmem S8x1x160x96 .f32} {harg10 : arg10.IsWhole} {arg11 : Memref sig .tc .vmem S1x8x96 .f32} {harg11 : arg11.IsWhole} {arg12 : Memref sig .tc .vmem S8x1x160x256 .bf16} {harg12 : arg12.IsWhole} {arg13 : Memref sig .tc .vmem S8x1x160x96 .f32} {harg13 : arg13.IsWhole} {arg14 : Memref sig .tc .vmem S1x8x96 .f32} {harg14 : arg14.IsWhole} {arg15 : Memref sig .tc .vmem S8x1x160x256 .fp8e4m3} {harg15 : arg15.IsWhole} {arg16 : Memref sig .tc .vmem S1x8x256 .f32} {harg16 : arg16.IsWhole} {arg17 : Memref sig .tc .vmem S8x1x160x256 .fp8e4m3} {harg17 : arg17.IsWhole} {arg18 : Memref sig .tc .vmem S1x8x256 .f32} {harg18 : arg18.IsWhole} {x0 : Vec Ideal S8x1x160x256 .bf16} {x1 : Vec Ideal S8x1x160x256 .bf16} {x2 : Vec Ideal S8x1x160x256 .bf16} {x3 : Vec Ideal S1x48x160 .fp8e4m3} {x4 : Vec Ideal S18x48 .f32} {x5 : Vec Ideal S1x48x160 .fp8e4m3} {x6 : Vec Ideal S18x48 .f32} {x7 : Vec Ideal S18x48 .f32} {x8 : Vec Ideal S18x48 .f32} {x9 : Vec Ideal S8x1x160x96 .f32} {x10 : Vec Ideal S1x8x96 .f32}

theorem raw13 (b : ℕ) (hb : b < 8) : zfK (gZ harg11 x10 b hb) (dsK (gB harg3 x2 b hb) (feat (gB harg2 x1 b hb) (gW harg6 x5) (gH harg7 x6 i) (gH harg9 x8 i))) = val13 i x0 x1 x2 x3 x4 x5 x6 x7 x8 x9 x10 ⟨b, hb⟩ := by
  simp only [ldB _ _ _ hb, ldS _ _ _ hb, ldZ _ _ _ hb, ldW, ldH]; rfl

end

section
variable (c : Dev nD) (i : grid0.Coords) (arg1 : Memref sig .tc .vmem S8x1x160x256 .bf16) (harg1 : arg1.IsWhole) (arg2 : Memref sig .tc .vmem S8x1x160x256 .bf16) (harg2 : arg2.IsWhole) (arg3 : Memref sig .tc .vmem S8x1x160x256 .bf16) (harg3 : arg3.IsWhole) (arg4 : Memref sig .tc .vmem S1x48x160 .fp8e4m3) (harg4 : arg4.IsWhole) (arg5 : Memref sig .tc .vmem S18x48 .f32) (harg5 : arg5.IsWhole) (arg6 : Memref sig .tc .vmem S1x48x160 .fp8e4m3) (harg6 : arg6.IsWhole) (arg7 : Memref sig .tc .vmem S18x48 .f32) (harg7 : arg7.IsWhole) (arg8 : Memref sig .tc .vmem S18x48 .f32) (harg8 : arg8.IsWhole) (arg9 : Memref sig .tc .vmem S18x48 .f32) (harg9 : arg9.IsWhole) (arg10 : Memref sig .tc .vmem S8x1x160x96 .f32) (harg10 : arg10.IsWhole) (arg11 : Memref sig .tc .vmem S1x8x96 .f32) (harg11 : arg11.IsWhole) (arg12 : Memref sig .tc .vmem S8x1x160x256 .bf16) (harg12 : arg12.IsWhole) (arg13 : Memref sig .tc .vmem S8x1x160x96 .f32) (harg13 : arg13.IsWhole) (arg14 : Memref sig .tc .vmem S1x8x96 .f32) (harg14 : arg14.IsWhole) (arg15 : Memref sig .tc .vmem S8x1x160x256 .fp8e4m3) (harg15 : arg15.IsWhole) (arg16 : Memref sig .tc .vmem S1x8x256 .f32) (harg16 : arg16.IsWhole) (arg17 : Memref sig .tc .vmem S8x1x160x256 .fp8e4m3) (harg17 : arg17.IsWhole) (arg18 : Memref sig .tc .vmem S1x8x256 .f32) (harg18 : arg18.IsWhole) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32)

theorem list13 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.2.1 =
    [⟨Rect.unit (s := S1x8x96) ![0, 7, 0] S1x1x96.size (inZ 7 (by decide)), zfK (gZ harg11 x10 7 (by decide)) (dsK (gB harg3 x2 7 (by decide)) (feat (gB harg2 x1 7 (by decide)) (gW harg6 x5) (gH harg7 x6 i) (gH harg9 x8 i)))⟩, ⟨Rect.unit (s := S1x8x96) ![0, 6, 0] S1x1x96.size (inZ 6 (by decide)), zfK (gZ harg11 x10 6 (by decide)) (dsK (gB harg3 x2 6 (by decide)) (feat (gB harg2 x1 6 (by decide)) (gW harg6 x5) (gH harg7 x6 i) (gH harg9 x8 i)))⟩, ⟨Rect.unit (s := S1x8x96) ![0, 5, 0] S1x1x96.size (inZ 5 (by decide)), zfK (gZ harg11 x10 5 (by decide)) (dsK (gB harg3 x2 5 (by decide)) (feat (gB harg2 x1 5 (by decide)) (gW harg6 x5) (gH harg7 x6 i) (gH harg9 x8 i)))⟩, ⟨Rect.unit (s := S1x8x96) ![0, 4, 0] S1x1x96.size (inZ 4 (by decide)), zfK (gZ harg11 x10 4 (by decide)) (dsK (gB harg3 x2 4 (by decide)) (feat (gB harg2 x1 4 (by decide)) (gW harg6 x5) (gH harg7 x6 i) (gH harg9 x8 i)))⟩, ⟨Rect.unit (s := S1x8x96) ![0, 3, 0] S1x1x96.size (inZ 3 (by decide)), zfK (gZ harg11 x10 3 (by decide)) (dsK (gB harg3 x2 3 (by decide)) (feat (gB harg2 x1 3 (by decide)) (gW harg6 x5) (gH harg7 x6 i) (gH harg9 x8 i)))⟩, ⟨Rect.unit (s := S1x8x96) ![0, 2, 0] S1x1x96.size (inZ 2 (by decide)), zfK (gZ harg11 x10 2 (by decide)) (dsK (gB harg3 x2 2 (by decide)) (feat (gB harg2 x1 2 (by decide)) (gW harg6 x5) (gH harg7 x6 i) (gH harg9 x8 i)))⟩, ⟨Rect.unit (s := S1x8x96) ![0, 1, 0] S1x1x96.size (inZ 1 (by decide)), zfK (gZ harg11 x10 1 (by decide)) (dsK (gB harg3 x2 1 (by decide)) (feat (gB harg2 x1 1 (by decide)) (gW harg6 x5) (gH harg7 x6 i) (gH harg9 x8 i)))⟩, ⟨Rect.unit (s := S1x8x96) ![0, 0, 0] S1x1x96.size (inZ 0 (by decide)), zfK (gZ harg11 x10 0 (by decide)) (dsK (gB harg3 x2 0 (by decide)) (feat (gB harg2 x1 0 (by decide)) (gW harg6 x5) (gH harg7 x6 i) (gH harg9 x8 i)))⟩] := rfl

theorem out13 (y : S1x8x96.Idx) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y = val13 i x0 x1 x2 x3 x4 x5 x6 x7 x8 x9 x10 (y 1) (ix3 0 0 (y 2)) := by
  refine View.read_writes_apply_of_pieces (v := VO0_13) (f := VO0_13.junk) (Val := Elt Ideal) (fun y : S1x8x96.Idx => val13 i x0 x1 x2 x3 x4 x5 x6 x7 x8 x9 x10 (y 1) (ix3 0 0 (y 2))) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y)
  rw [list13]
  simp only [List.forall_mem_cons, List.forall_mem_nil, and_true]
  exact ⟨fun x => (congrFun (raw13 7 (by decide)) x).trans (embZ (val13 i x0 x1 x2 x3 x4 x5 x6 x7 x8 x9 x10) 7 (by decide) x), fun x => (congrFun (raw13 6 (by decide)) x).trans (embZ (val13 i x0 x1 x2 x3 x4 x5 x6 x7 x8 x9 x10) 6 (by decide) x), fun x => (congrFun (raw13 5 (by decide)) x).trans (embZ (val13 i x0 x1 x2 x3 x4 x5 x6 x7 x8 x9 x10) 5 (by decide) x), fun x => (congrFun (raw13 4 (by decide)) x).trans (embZ (val13 i x0 x1 x2 x3 x4 x5 x6 x7 x8 x9 x10) 4 (by decide) x), fun x => (congrFun (raw13 3 (by decide)) x).trans (embZ (val13 i x0 x1 x2 x3 x4 x5 x6 x7 x8 x9 x10) 3 (by decide) x), fun x => (congrFun (raw13 2 (by decide)) x).trans (embZ (val13 i x0 x1 x2 x3 x4 x5 x6 x7 x8 x9 x10) 2 (by decide) x), fun x => (congrFun (raw13 1 (by decide)) x).trans (embZ (val13 i x0 x1 x2 x3 x4 x5 x6 x7 x8 x9 x10) 1 (by decide) x), fun x => (congrFun (raw13 0 (by decide)) x).trans (embZ (val13 i x0 x1 x2 x3 x4 x5 x6 x7 x8 x9 x10) 0 (by decide) x), fun _ h => absurd h List.not_mem_nil⟩

end

section
variable {c : Dev nD} {i : grid0.Coords} {arg1 : Memref sig .tc .vmem S8x1x160x256 .bf16} {harg1 : arg1.IsWhole} {arg2 : Memref sig .tc .vmem S8x1x160x256 .bf16} {harg2 : arg2.IsWhole} {arg3 : Memref sig .tc .vmem S8x1x160x256 .bf16} {harg3 : arg3.IsWhole} {arg4 : Memref sig .tc .vmem S1x48x160 .fp8e4m3} {harg4 : arg4.IsWhole} {arg5 : Memref sig .tc .vmem S18x48 .f32} {harg5 : arg5.IsWhole} {arg6 : Memref sig .tc .vmem S1x48x160 .fp8e4m3} {harg6 : arg6.IsWhole} {arg7 : Memref sig .tc .vmem S18x48 .f32} {harg7 : arg7.IsWhole} {arg8 : Memref sig .tc .vmem S18x48 .f32} {harg8 : arg8.IsWhole} {arg9 : Memref sig .tc .vmem S18x48 .f32} {harg9 : arg9.IsWhole} {arg10 : Memref sig .tc .vmem S8x1x160x96 .f32} {harg10 : arg10.IsWhole} {arg11 : Memref sig .tc .vmem S1x8x96 .f32} {harg11 : arg11.IsWhole} {arg12 : Memref sig .tc .vmem S8x1x160x256 .bf16} {harg12 : arg12.IsWhole} {arg13 : Memref sig .tc .vmem S8x1x160x96 .f32} {harg13 : arg13.IsWhole} {arg14 : Memref sig .tc .vmem S1x8x96 .f32} {harg14 : arg14.IsWhole} {arg15 : Memref sig .tc .vmem S8x1x160x256 .fp8e4m3} {harg15 : arg15.IsWhole} {arg16 : Memref sig .tc .vmem S1x8x256 .f32} {harg16 : arg16.IsWhole} {arg17 : Memref sig .tc .vmem S8x1x160x256 .fp8e4m3} {harg17 : arg17.IsWhole} {arg18 : Memref sig .tc .vmem S1x8x256 .f32} {harg18 : arg18.IsWhole} {x0 : Vec Ideal S8x1x160x256 .bf16} {x1 : Vec Ideal S8x1x160x256 .bf16} {x2 : Vec Ideal S8x1x160x256 .bf16} {x3 : Vec Ideal S1x48x160 .fp8e4m3} {x4 : Vec Ideal S18x48 .f32} {x5 : Vec Ideal S1x48x160 .fp8e4m3} {x6 : Vec Ideal S18x48 .f32} {x7 : Vec Ideal S18x48 .f32} {x8 : Vec Ideal S18x48 .f32} {x9 : Vec Ideal S8x1x160x96 .f32} {x10 : Vec Ideal S1x8x96 .f32}

theorem raw14 (b : ℕ) (hb : b < 8) : codeOf (gB harg1 x0 b hb) = val14 i x0 x1 x2 x3 x4 x5 x6 x7 x8 x9 x10 ⟨b, hb⟩ := by
  simp only [ldB _ _ _ hb, ldS _ _ _ hb, ldZ _ _ _ hb, ldW, ldH]; rfl

end

section
variable (c : Dev nD) (i : grid0.Coords) (arg1 : Memref sig .tc .vmem S8x1x160x256 .bf16) (harg1 : arg1.IsWhole) (arg2 : Memref sig .tc .vmem S8x1x160x256 .bf16) (harg2 : arg2.IsWhole) (arg3 : Memref sig .tc .vmem S8x1x160x256 .bf16) (harg3 : arg3.IsWhole) (arg4 : Memref sig .tc .vmem S1x48x160 .fp8e4m3) (harg4 : arg4.IsWhole) (arg5 : Memref sig .tc .vmem S18x48 .f32) (harg5 : arg5.IsWhole) (arg6 : Memref sig .tc .vmem S1x48x160 .fp8e4m3) (harg6 : arg6.IsWhole) (arg7 : Memref sig .tc .vmem S18x48 .f32) (harg7 : arg7.IsWhole) (arg8 : Memref sig .tc .vmem S18x48 .f32) (harg8 : arg8.IsWhole) (arg9 : Memref sig .tc .vmem S18x48 .f32) (harg9 : arg9.IsWhole) (arg10 : Memref sig .tc .vmem S8x1x160x96 .f32) (harg10 : arg10.IsWhole) (arg11 : Memref sig .tc .vmem S1x8x96 .f32) (harg11 : arg11.IsWhole) (arg12 : Memref sig .tc .vmem S8x1x160x256 .bf16) (harg12 : arg12.IsWhole) (arg13 : Memref sig .tc .vmem S8x1x160x96 .f32) (harg13 : arg13.IsWhole) (arg14 : Memref sig .tc .vmem S1x8x96 .f32) (harg14 : arg14.IsWhole) (arg15 : Memref sig .tc .vmem S8x1x160x256 .fp8e4m3) (harg15 : arg15.IsWhole) (arg16 : Memref sig .tc .vmem S1x8x256 .f32) (harg16 : arg16.IsWhole) (arg17 : Memref sig .tc .vmem S8x1x160x256 .fp8e4m3) (harg17 : arg17.IsWhole) (arg18 : Memref sig .tc .vmem S1x8x256 .f32) (harg18 : arg18.IsWhole) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32)

theorem list14 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.2.2.1 =
    [⟨Rect.unit (s := S8x1x160x256) ![7, 0, 0, 0] S1x1x160x256.size (inB 7 (by decide)), codeOf (gB harg1 x0 7 (by decide))⟩, ⟨Rect.unit (s := S8x1x160x256) ![6, 0, 0, 0] S1x1x160x256.size (inB 6 (by decide)), codeOf (gB harg1 x0 6 (by decide))⟩, ⟨Rect.unit (s := S8x1x160x256) ![5, 0, 0, 0] S1x1x160x256.size (inB 5 (by decide)), codeOf (gB harg1 x0 5 (by decide))⟩, ⟨Rect.unit (s := S8x1x160x256) ![4, 0, 0, 0] S1x1x160x256.size (inB 4 (by decide)), codeOf (gB harg1 x0 4 (by decide))⟩, ⟨Rect.unit (s := S8x1x160x256) ![3, 0, 0, 0] S1x1x160x256.size (inB 3 (by decide)), codeOf (gB harg1 x0 3 (by decide))⟩, ⟨Rect.unit (s := S8x1x160x256) ![2, 0, 0, 0] S1x1x160x256.size (inB 2 (by decide)), codeOf (gB harg1 x0 2 (by decide))⟩, ⟨Rect.unit (s := S8x1x160x256) ![1, 0, 0, 0] S1x1x160x256.size (inB 1 (by decide)), codeOf (gB harg1 x0 1 (by decide))⟩, ⟨Rect.unit (s := S8x1x160x256) ![0, 0, 0, 0] S1x1x160x256.size (inB 0 (by decide)), codeOf (gB harg1 x0 0 (by decide))⟩] := rfl

theorem out14 (y : S8x1x160x256.Idx) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y = val14 i x0 x1 x2 x3 x4 x5 x6 x7 x8 x9 x10 (y 0) (ix4 0 0 (y 2) (y 3)) := by
  refine View.read_writes_apply_of_pieces (v := VO0_14) (f := VO0_14.junk) (Val := Elt Ideal) (fun y : S8x1x160x256.Idx => val14 i x0 x1 x2 x3 x4 x5 x6 x7 x8 x9 x10 (y 0) (ix4 0 0 (y 2) (y 3))) _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y)
  rw [list14]
  simp only [List.forall_mem_cons, List.forall_mem_nil, and_true]
  exact ⟨fun x => (congrFun (raw14 7 (by decide)) x).trans (embB (val14 i x0 x1 x2 x3 x4 x5 x6 x7 x8 x9 x10) 7 (by decide) x), fun x => (congrFun (raw14 6 (by decide)) x).trans (embB (val14 i x0 x1 x2 x3 x4 x5 x6 x7 x8 x9 x10) 6 (by decide) x), fun x => (congrFun (raw14 5 (by decide)) x).trans (embB (val14 i x0 x1 x2 x3 x4 x5 x6 x7 x8 x9 x10) 5 (by decide) x), fun x => (congrFun (raw14 4 (by decide)) x).trans (embB (val14 i x0 x1 x2 x3 x4 x5 x6 x7 x8 x9 x10) 4 (by decide) x), fun x => (congrFun (raw14 3 (by decide)) x).trans (embB (val14 i x0 x1 x2 x3 x4 x5 x6 x7 x8 x9 x10) 3 (by decide) x), fun x => (congrFun (raw14 2 (by decide)) x).trans (embB (val14 i x0 x1 x2 x3 x4 x5 x6 x7 x8 x9 x10) 2 (by decide) x), fun x => (congrFun (raw14 1 (by decide)) x).trans (embB (val14 i x0 x1 x2 x3 x4 x5 x6 x7 x8 x9 x10) 1 (by decide) x), fun x => (congrFun (raw14 0 (by decide)) x).trans (embB (val14 i x0 x1 x2 x3 x4 x5 x6 x7 x8 x9 x10) 0 (by decide) x), fun _ h => absurd h List.not_mem_nil⟩

end

section
variable {c : Dev nD} {i : grid0.Coords} {arg1 : Memref sig .tc .vmem S8x1x160x256 .bf16} {harg1 : arg1.IsWhole} {arg2 : Memref sig .tc .vmem S8x1x160x256 .bf16} {harg2 : arg2.IsWhole} {arg3 : Memref sig .tc .vmem S8x1x160x256 .bf16} {harg3 : arg3.IsWhole} {arg4 : Memref sig .tc .vmem S1x48x160 .fp8e4m3} {harg4 : arg4.IsWhole} {arg5 : Memref sig .tc .vmem S18x48 .f32} {harg5 : arg5.IsWhole} {arg6 : Memref sig .tc .vmem S1x48x160 .fp8e4m3} {harg6 : arg6.IsWhole} {arg7 : Memref sig .tc .vmem S18x48 .f32} {harg7 : arg7.IsWhole} {arg8 : Memref sig .tc .vmem S18x48 .f32} {harg8 : arg8.IsWhole} {arg9 : Memref sig .tc .vmem S18x48 .f32} {harg9 : arg9.IsWhole} {arg10 : Memref sig .tc .vmem S8x1x160x96 .f32} {harg10 : arg10.IsWhole} {arg11 : Memref sig .tc .vmem S1x8x96 .f32} {harg11 : arg11.IsWhole} {arg12 : Memref sig .tc .vmem S8x1x160x256 .bf16} {harg12 : arg12.IsWhole} {arg13 : Memref sig .tc .vmem S8x1x160x96 .f32} {harg13 : arg13.IsWhole} {arg14 : Memref sig .tc .vmem S1x8x96 .f32} {harg14 : arg14.IsWhole} {arg15 : Memref sig .tc .vmem S8x1x160x256 .fp8e4m3} {harg15 : arg15.IsWhole} {arg16 : Memref sig .tc .vmem S1x8x256 .f32} {harg16 : arg16.IsWhole} {arg17 : Memref sig .tc .vmem S8x1x160x256 .fp8e4m3} {harg17 : arg17.IsWhole} {arg18 : Memref sig .tc .vmem S1x8x256 .f32} {harg18 : arg18.IsWhole} {x0 : Vec Ideal S8x1x160x256 .bf16} {x1 : Vec Ideal S8x1x160x256 .bf16} {x2 : Vec Ideal S8x1x160x256 .bf16} {x3 : Vec Ideal S1x48x160 .fp8e4m3} {x4 : Vec Ideal S18x48 .f32} {x5 : Vec Ideal S1x48x160 .fp8e4m3} {x6 : Vec Ideal S18x48 .f32} {x7 : Vec Ideal S18x48 .f32} {x8 : Vec Ideal S18x48 .f32} {x9 : Vec Ideal S8x1x160x96 .f32} {x10 : Vec Ideal S1x8x96 .f32}

theorem raw15 (b : ℕ) (hb : b < 8) : scaleOf (gB harg1 x0 b hb) = val15 i x0 x1 x2 x3 x4 x5 x6 x7 x8 x9 x10 ⟨b, hb⟩ := by
  simp only [ldB _ _ _ hb, ldS _ _ _ hb, ldZ _ _ _ hb, ldW, ldH]; rfl

end

section
variable (c : Dev nD) (i : grid0.Coords) (arg1 : Memref sig .tc .vmem S8x1x160x256 .bf16) (harg1 : arg1.IsWhole) (arg2 : Memref sig .tc .vmem S8x1x160x256 .bf16) (harg2 : arg2.IsWhole) (arg3 : Memref sig .tc .vmem S8x1x160x256 .bf16) (harg3 : arg3.IsWhole) (arg4 : Memref sig .tc .vmem S1x48x160 .fp8e4m3) (harg4 : arg4.IsWhole) (arg5 : Memref sig .tc .vmem S18x48 .f32) (harg5 : arg5.IsWhole) (arg6 : Memref sig .tc .vmem S1x48x160 .fp8e4m3) (harg6 : arg6.IsWhole) (arg7 : Memref sig .tc .vmem S18x48 .f32) (harg7 : arg7.IsWhole) (arg8 : Memref sig .tc .vmem S18x48 .f32) (harg8 : arg8.IsWhole) (arg9 : Memref sig .tc .vmem S18x48 .f32) (harg9 : arg9.IsWhole) (arg10 : Memref sig .tc .vmem S8x1x160x96 .f32) (harg10 : arg10.IsWhole) (arg11 : Memref sig .tc .vmem S1x8x96 .f32) (harg11 : arg11.IsWhole) (arg12 : Memref sig .tc .vmem S8x1x160x256 .bf16) (harg12 : arg12.IsWhole) (arg13 : Memref sig .tc .vmem S8x1x160x96 .f32) (harg13 : arg13.IsWhole) (arg14 : Memref sig .tc .vmem S1x8x96 .f32) (harg14 : arg14.IsWhole) (arg15 : Memref sig .tc .vmem S8x1x160x256 .fp8e4m3) (harg15 : arg15.IsWhole) (arg16 : Memref sig .tc .vmem S1x8x256 .f32) (harg16 : arg16.IsWhole) (arg17 : Memref sig .tc .vmem S8x1x160x256 .fp8e4m3) (harg17 : arg17.IsWhole) (arg18 : Memref sig .tc .vmem S1x8x256 .f32) (harg18 : arg18.IsWhole) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32)

theorem list15 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.2.2.2.1 =
    [⟨Rect.unit (s := S1x8x256) ![0, 7, 0] S1x1x256.size (inR 7 (by decide)), scaleOf (gB harg1 x0 7 (by decide))⟩, ⟨Rect.unit (s := S1x8x256) ![0, 6, 0] S1x1x256.size (inR 6 (by decide)), scaleOf (gB harg1 x0 6 (by decide))⟩, ⟨Rect.unit (s := S1x8x256) ![0, 5, 0] S1x1x256.size (inR 5 (by decide)), scaleOf (gB harg1 x0 5 (by decide))⟩, ⟨Rect.unit (s := S1x8x256) ![0, 4, 0] S1x1x256.size (inR 4 (by decide)), scaleOf (gB harg1 x0 4 (by decide))⟩, ⟨Rect.unit (s := S1x8x256) ![0, 3, 0] S1x1x256.size (inR 3 (by decide)), scaleOf (gB harg1 x0 3 (by decide))⟩, ⟨Rect.unit (s := S1x8x256) ![0, 2, 0] S1x1x256.size (inR 2 (by decide)), scaleOf (gB harg1 x0 2 (by decide))⟩, ⟨Rect.unit (s := S1x8x256) ![0, 1, 0] S1x1x256.size (inR 1 (by decide)), scaleOf (gB harg1 x0 1 (by decide))⟩, ⟨Rect.unit (s := S1x8x256) ![0, 0, 0] S1x1x256.size (inR 0 (by decide)), scaleOf (gB harg1 x0 0 (by decide))⟩] := rfl

theorem out15 (y : S1x8x256.Idx) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y = val15 i x0 x1 x2 x3 x4 x5 x6 x7 x8 x9 x10 (y 1) (ix3 0 0 (y 2)) := by
  refine View.read_writes_apply_of_pieces (v := VO0_15) (f := VO0_15.junk) (Val := Elt Ideal) (fun y : S1x8x256.Idx => val15 i x0 x1 x2 x3 x4 x5 x6 x7 x8 x9 x10 (y 1) (ix3 0 0 (y 2))) _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y)
  rw [list15]
  simp only [List.forall_mem_cons, List.forall_mem_nil, and_true]
  exact ⟨fun x => (congrFun (raw15 7 (by decide)) x).trans (embR (val15 i x0 x1 x2 x3 x4 x5 x6 x7 x8 x9 x10) 7 (by decide) x), fun x => (congrFun (raw15 6 (by decide)) x).trans (embR (val15 i x0 x1 x2 x3 x4 x5 x6 x7 x8 x9 x10) 6 (by decide) x), fun x => (congrFun (raw15 5 (by decide)) x).trans (embR (val15 i x0 x1 x2 x3 x4 x5 x6 x7 x8 x9 x10) 5 (by decide) x), fun x => (congrFun (raw15 4 (by decide)) x).trans (embR (val15 i x0 x1 x2 x3 x4 x5 x6 x7 x8 x9 x10) 4 (by decide) x), fun x => (congrFun (raw15 3 (by decide)) x).trans (embR (val15 i x0 x1 x2 x3 x4 x5 x6 x7 x8 x9 x10) 3 (by decide) x), fun x => (congrFun (raw15 2 (by decide)) x).trans (embR (val15 i x0 x1 x2 x3 x4 x5 x6 x7 x8 x9 x10) 2 (by decide) x), fun x => (congrFun (raw15 1 (by decide)) x).trans (embR (val15 i x0 x1 x2 x3 x4 x5 x6 x7 x8 x9 x10) 1 (by decide) x), fun x => (congrFun (raw15 0 (by decide)) x).trans (embR (val15 i x0 x1 x2 x3 x4 x5 x6 x7 x8 x9 x10) 0 (by decide) x), fun _ h => absurd h List.not_mem_nil⟩

end

section
variable {c : Dev nD} {i : grid0.Coords} {arg1 : Memref sig .tc .vmem S8x1x160x256 .bf16} {harg1 : arg1.IsWhole} {arg2 : Memref sig .tc .vmem S8x1x160x256 .bf16} {harg2 : arg2.IsWhole} {arg3 : Memref sig .tc .vmem S8x1x160x256 .bf16} {harg3 : arg3.IsWhole} {arg4 : Memref sig .tc .vmem S1x48x160 .fp8e4m3} {harg4 : arg4.IsWhole} {arg5 : Memref sig .tc .vmem S18x48 .f32} {harg5 : arg5.IsWhole} {arg6 : Memref sig .tc .vmem S1x48x160 .fp8e4m3} {harg6 : arg6.IsWhole} {arg7 : Memref sig .tc .vmem S18x48 .f32} {harg7 : arg7.IsWhole} {arg8 : Memref sig .tc .vmem S18x48 .f32} {harg8 : arg8.IsWhole} {arg9 : Memref sig .tc .vmem S18x48 .f32} {harg9 : arg9.IsWhole} {arg10 : Memref sig .tc .vmem S8x1x160x96 .f32} {harg10 : arg10.IsWhole} {arg11 : Memref sig .tc .vmem S1x8x96 .f32} {harg11 : arg11.IsWhole} {arg12 : Memref sig .tc .vmem S8x1x160x256 .bf16} {harg12 : arg12.IsWhole} {arg13 : Memref sig .tc .vmem S8x1x160x96 .f32} {harg13 : arg13.IsWhole} {arg14 : Memref sig .tc .vmem S1x8x96 .f32} {harg14 : arg14.IsWhole} {arg15 : Memref sig .tc .vmem S8x1x160x256 .fp8e4m3} {harg15 : arg15.IsWhole} {arg16 : Memref sig .tc .vmem S1x8x256 .f32} {harg16 : arg16.IsWhole} {arg17 : Memref sig .tc .vmem S8x1x160x256 .fp8e4m3} {harg17 : arg17.IsWhole} {arg18 : Memref sig .tc .vmem S1x8x256 .f32} {harg18 : arg18.IsWhole} {x0 : Vec Ideal S8x1x160x256 .bf16} {x1 : Vec Ideal S8x1x160x256 .bf16} {x2 : Vec Ideal S8x1x160x256 .bf16} {x3 : Vec Ideal S1x48x160 .fp8e4m3} {x4 : Vec Ideal S18x48 .f32} {x5 : Vec Ideal S1x48x160 .fp8e4m3} {x6 : Vec Ideal S18x48 .f32} {x7 : Vec Ideal S18x48 .f32} {x8 : Vec Ideal S18x48 .f32} {x9 : Vec Ideal S8x1x160x96 .f32} {x10 : Vec Ideal S1x8x96 .f32}

theorem raw16 (b : ℕ) (hb : b < 8) : codeOf (gB harg2 x1 b hb) = val16 i x0 x1 x2 x3 x4 x5 x6 x7 x8 x9 x10 ⟨b, hb⟩ := by
  simp only [ldB _ _ _ hb, ldS _ _ _ hb, ldZ _ _ _ hb, ldW, ldH]; rfl

end

section
variable (c : Dev nD) (i : grid0.Coords) (arg1 : Memref sig .tc .vmem S8x1x160x256 .bf16) (harg1 : arg1.IsWhole) (arg2 : Memref sig .tc .vmem S8x1x160x256 .bf16) (harg2 : arg2.IsWhole) (arg3 : Memref sig .tc .vmem S8x1x160x256 .bf16) (harg3 : arg3.IsWhole) (arg4 : Memref sig .tc .vmem S1x48x160 .fp8e4m3) (harg4 : arg4.IsWhole) (arg5 : Memref sig .tc .vmem S18x48 .f32) (harg5 : arg5.IsWhole) (arg6 : Memref sig .tc .vmem S1x48x160 .fp8e4m3) (harg6 : arg6.IsWhole) (arg7 : Memref sig .tc .vmem S18x48 .f32) (harg7 : arg7.IsWhole) (arg8 : Memref sig .tc .vmem S18x48 .f32) (harg8 : arg8.IsWhole) (arg9 : Memref sig .tc .vmem S18x48 .f32) (harg9 : arg9.IsWhole) (arg10 : Memref sig .tc .vmem S8x1x160x96 .f32) (harg10 : arg10.IsWhole) (arg11 : Memref sig .tc .vmem S1x8x96 .f32) (harg11 : arg11.IsWhole) (arg12 : Memref sig .tc .vmem S8x1x160x256 .bf16) (harg12 : arg12.IsWhole) (arg13 : Memref sig .tc .vmem S8x1x160x96 .f32) (harg13 : arg13.IsWhole) (arg14 : Memref sig .tc .vmem S1x8x96 .f32) (harg14 : arg14.IsWhole) (arg15 : Memref sig .tc .vmem S8x1x160x256 .fp8e4m3) (harg15 : arg15.IsWhole) (arg16 : Memref sig .tc .vmem S1x8x256 .f32) (harg16 : arg16.IsWhole) (arg17 : Memref sig .tc .vmem S8x1x160x256 .fp8e4m3) (harg17 : arg17.IsWhole) (arg18 : Memref sig .tc .vmem S1x8x256 .f32) (harg18 : arg18.IsWhole) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32)

theorem list16 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.2.2.2.2.1 =
    [⟨Rect.unit (s := S8x1x160x256) ![7, 0, 0, 0] S1x1x160x256.size (inB 7 (by decide)), codeOf (gB harg2 x1 7 (by decide))⟩, ⟨Rect.unit (s := S8x1x160x256) ![6, 0, 0, 0] S1x1x160x256.size (inB 6 (by decide)), codeOf (gB harg2 x1 6 (by decide))⟩, ⟨Rect.unit (s := S8x1x160x256) ![5, 0, 0, 0] S1x1x160x256.size (inB 5 (by decide)), codeOf (gB harg2 x1 5 (by decide))⟩, ⟨Rect.unit (s := S8x1x160x256) ![4, 0, 0, 0] S1x1x160x256.size (inB 4 (by decide)), codeOf (gB harg2 x1 4 (by decide))⟩, ⟨Rect.unit (s := S8x1x160x256) ![3, 0, 0, 0] S1x1x160x256.size (inB 3 (by decide)), codeOf (gB harg2 x1 3 (by decide))⟩, ⟨Rect.unit (s := S8x1x160x256) ![2, 0, 0, 0] S1x1x160x256.size (inB 2 (by decide)), codeOf (gB harg2 x1 2 (by decide))⟩, ⟨Rect.unit (s := S8x1x160x256) ![1, 0, 0, 0] S1x1x160x256.size (inB 1 (by decide)), codeOf (gB harg2 x1 1 (by decide))⟩, ⟨Rect.unit (s := S8x1x160x256) ![0, 0, 0, 0] S1x1x160x256.size (inB 0 (by decide)), codeOf (gB harg2 x1 0 (by decide))⟩] := rfl

theorem out16 (y : S8x1x160x256.Idx) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y = val16 i x0 x1 x2 x3 x4 x5 x6 x7 x8 x9 x10 (y 0) (ix4 0 0 (y 2) (y 3)) := by
  refine View.read_writes_apply_of_pieces (v := VO0_16) (f := VO0_16.junk) (Val := Elt Ideal) (fun y : S8x1x160x256.Idx => val16 i x0 x1 x2 x3 x4 x5 x6 x7 x8 x9 x10 (y 0) (ix4 0 0 (y 2) (y 3))) _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y)
  rw [list16]
  simp only [List.forall_mem_cons, List.forall_mem_nil, and_true]
  exact ⟨fun x => (congrFun (raw16 7 (by decide)) x).trans (embB (val16 i x0 x1 x2 x3 x4 x5 x6 x7 x8 x9 x10) 7 (by decide) x), fun x => (congrFun (raw16 6 (by decide)) x).trans (embB (val16 i x0 x1 x2 x3 x4 x5 x6 x7 x8 x9 x10) 6 (by decide) x), fun x => (congrFun (raw16 5 (by decide)) x).trans (embB (val16 i x0 x1 x2 x3 x4 x5 x6 x7 x8 x9 x10) 5 (by decide) x), fun x => (congrFun (raw16 4 (by decide)) x).trans (embB (val16 i x0 x1 x2 x3 x4 x5 x6 x7 x8 x9 x10) 4 (by decide) x), fun x => (congrFun (raw16 3 (by decide)) x).trans (embB (val16 i x0 x1 x2 x3 x4 x5 x6 x7 x8 x9 x10) 3 (by decide) x), fun x => (congrFun (raw16 2 (by decide)) x).trans (embB (val16 i x0 x1 x2 x3 x4 x5 x6 x7 x8 x9 x10) 2 (by decide) x), fun x => (congrFun (raw16 1 (by decide)) x).trans (embB (val16 i x0 x1 x2 x3 x4 x5 x6 x7 x8 x9 x10) 1 (by decide) x), fun x => (congrFun (raw16 0 (by decide)) x).trans (embB (val16 i x0 x1 x2 x3 x4 x5 x6 x7 x8 x9 x10) 0 (by decide) x), fun _ h => absurd h List.not_mem_nil⟩

end

section
variable {c : Dev nD} {i : grid0.Coords} {arg1 : Memref sig .tc .vmem S8x1x160x256 .bf16} {harg1 : arg1.IsWhole} {arg2 : Memref sig .tc .vmem S8x1x160x256 .bf16} {harg2 : arg2.IsWhole} {arg3 : Memref sig .tc .vmem S8x1x160x256 .bf16} {harg3 : arg3.IsWhole} {arg4 : Memref sig .tc .vmem S1x48x160 .fp8e4m3} {harg4 : arg4.IsWhole} {arg5 : Memref sig .tc .vmem S18x48 .f32} {harg5 : arg5.IsWhole} {arg6 : Memref sig .tc .vmem S1x48x160 .fp8e4m3} {harg6 : arg6.IsWhole} {arg7 : Memref sig .tc .vmem S18x48 .f32} {harg7 : arg7.IsWhole} {arg8 : Memref sig .tc .vmem S18x48 .f32} {harg8 : arg8.IsWhole} {arg9 : Memref sig .tc .vmem S18x48 .f32} {harg9 : arg9.IsWhole} {arg10 : Memref sig .tc .vmem S8x1x160x96 .f32} {harg10 : arg10.IsWhole} {arg11 : Memref sig .tc .vmem S1x8x96 .f32} {harg11 : arg11.IsWhole} {arg12 : Memref sig .tc .vmem S8x1x160x256 .bf16} {harg12 : arg12.IsWhole} {arg13 : Memref sig .tc .vmem S8x1x160x96 .f32} {harg13 : arg13.IsWhole} {arg14 : Memref sig .tc .vmem S1x8x96 .f32} {harg14 : arg14.IsWhole} {arg15 : Memref sig .tc .vmem S8x1x160x256 .fp8e4m3} {harg15 : arg15.IsWhole} {arg16 : Memref sig .tc .vmem S1x8x256 .f32} {harg16 : arg16.IsWhole} {arg17 : Memref sig .tc .vmem S8x1x160x256 .fp8e4m3} {harg17 : arg17.IsWhole} {arg18 : Memref sig .tc .vmem S1x8x256 .f32} {harg18 : arg18.IsWhole} {x0 : Vec Ideal S8x1x160x256 .bf16} {x1 : Vec Ideal S8x1x160x256 .bf16} {x2 : Vec Ideal S8x1x160x256 .bf16} {x3 : Vec Ideal S1x48x160 .fp8e4m3} {x4 : Vec Ideal S18x48 .f32} {x5 : Vec Ideal S1x48x160 .fp8e4m3} {x6 : Vec Ideal S18x48 .f32} {x7 : Vec Ideal S18x48 .f32} {x8 : Vec Ideal S18x48 .f32} {x9 : Vec Ideal S8x1x160x96 .f32} {x10 : Vec Ideal S1x8x96 .f32}

theorem raw17 (b : ℕ) (hb : b < 8) : scaleOf (gB harg2 x1 b hb) = val17 i x0 x1 x2 x3 x4 x5 x6 x7 x8 x9 x10 ⟨b, hb⟩ := by
  simp only [ldB _ _ _ hb, ldS _ _ _ hb, ldZ _ _ _ hb, ldW, ldH]; rfl

end

section
variable (c : Dev nD) (i : grid0.Coords) (arg1 : Memref sig .tc .vmem S8x1x160x256 .bf16) (harg1 : arg1.IsWhole) (arg2 : Memref sig .tc .vmem S8x1x160x256 .bf16) (harg2 : arg2.IsWhole) (arg3 : Memref sig .tc .vmem S8x1x160x256 .bf16) (harg3 : arg3.IsWhole) (arg4 : Memref sig .tc .vmem S1x48x160 .fp8e4m3) (harg4 : arg4.IsWhole) (arg5 : Memref sig .tc .vmem S18x48 .f32) (harg5 : arg5.IsWhole) (arg6 : Memref sig .tc .vmem S1x48x160 .fp8e4m3) (harg6 : arg6.IsWhole) (arg7 : Memref sig .tc .vmem S18x48 .f32) (harg7 : arg7.IsWhole) (arg8 : Memref sig .tc .vmem S18x48 .f32) (harg8 : arg8.IsWhole) (arg9 : Memref sig .tc .vmem S18x48 .f32) (harg9 : arg9.IsWhole) (arg10 : Memref sig .tc .vmem S8x1x160x96 .f32) (harg10 : arg10.IsWhole) (arg11 : Memref sig .tc .vmem S1x8x96 .f32) (harg11 : arg11.IsWhole) (arg12 : Memref sig .tc .vmem S8x1x160x256 .bf16) (harg12 : arg12.IsWhole) (arg13 : Memref sig .tc .vmem S8x1x160x96 .f32) (harg13 : arg13.IsWhole) (arg14 : Memref sig .tc .vmem S1x8x96 .f32) (harg14 : arg14.IsWhole) (arg15 : Memref sig .tc .vmem S8x1x160x256 .fp8e4m3) (harg15 : arg15.IsWhole) (arg16 : Memref sig .tc .vmem S1x8x256 .f32) (harg16 : arg16.IsWhole) (arg17 : Memref sig .tc .vmem S8x1x160x256 .fp8e4m3) (harg17 : arg17.IsWhole) (arg18 : Memref sig .tc .vmem S1x8x256 .f32) (harg18 : arg18.IsWhole) (x0 : Vec Ideal S8x1x160x256 .bf16) (x1 : Vec Ideal S8x1x160x256 .bf16) (x2 : Vec Ideal S8x1x160x256 .bf16) (x3 : Vec Ideal S1x48x160 .fp8e4m3) (x4 : Vec Ideal S18x48 .f32) (x5 : Vec Ideal S1x48x160 .fp8e4m3) (x6 : Vec Ideal S18x48 .f32) (x7 : Vec Ideal S18x48 .f32) (x8 : Vec Ideal S18x48 .f32) (x9 : Vec Ideal S8x1x160x96 .f32) (x10 : Vec Ideal S1x8x96 .f32)

theorem list17 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.2.2.2.2.2.1 =
    [⟨Rect.unit (s := S1x8x256) ![0, 7, 0] S1x1x256.size (inR 7 (by decide)), scaleOf (gB harg2 x1 7 (by decide))⟩, ⟨Rect.unit (s := S1x8x256) ![0, 6, 0] S1x1x256.size (inR 6 (by decide)), scaleOf (gB harg2 x1 6 (by decide))⟩, ⟨Rect.unit (s := S1x8x256) ![0, 5, 0] S1x1x256.size (inR 5 (by decide)), scaleOf (gB harg2 x1 5 (by decide))⟩, ⟨Rect.unit (s := S1x8x256) ![0, 4, 0] S1x1x256.size (inR 4 (by decide)), scaleOf (gB harg2 x1 4 (by decide))⟩, ⟨Rect.unit (s := S1x8x256) ![0, 3, 0] S1x1x256.size (inR 3 (by decide)), scaleOf (gB harg2 x1 3 (by decide))⟩, ⟨Rect.unit (s := S1x8x256) ![0, 2, 0] S1x1x256.size (inR 2 (by decide)), scaleOf (gB harg2 x1 2 (by decide))⟩, ⟨Rect.unit (s := S1x8x256) ![0, 1, 0] S1x1x256.size (inR 1 (by decide)), scaleOf (gB harg2 x1 1 (by decide))⟩, ⟨Rect.unit (s := S1x8x256) ![0, 0, 0] S1x1x256.size (inR 0 (by decide)), scaleOf (gB harg2 x1 0 (by decide))⟩] := rfl

theorem out17 (y : S1x8x256.Idx) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y = val17 i x0 x1 x2 x3 x4 x5 x6 x7 x8 x9 x10 (y 1) (ix3 0 0 (y 2)) := by
  refine View.read_writes_apply_of_pieces (v := VO0_17) (f := VO0_17.junk) (Val := Elt Ideal) (fun y : S1x8x256.Idx => val17 i x0 x1 x2 x3 x4 x5 x6 x7 x8 x9 x10 (y 1) (ix3 0 0 (y 2))) _ ?_ y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y)
  rw [list17]
  simp only [List.forall_mem_cons, List.forall_mem_nil, and_true]
  exact ⟨fun x => (congrFun (raw17 7 (by decide)) x).trans (embR (val17 i x0 x1 x2 x3 x4 x5 x6 x7 x8 x9 x10) 7 (by decide) x), fun x => (congrFun (raw17 6 (by decide)) x).trans (embR (val17 i x0 x1 x2 x3 x4 x5 x6 x7 x8 x9 x10) 6 (by decide) x), fun x => (congrFun (raw17 5 (by decide)) x).trans (embR (val17 i x0 x1 x2 x3 x4 x5 x6 x7 x8 x9 x10) 5 (by decide) x), fun x => (congrFun (raw17 4 (by decide)) x).trans (embR (val17 i x0 x1 x2 x3 x4 x5 x6 x7 x8 x9 x10) 4 (by decide) x), fun x => (congrFun (raw17 3 (by decide)) x).trans (embR (val17 i x0 x1 x2 x3 x4 x5 x6 x7 x8 x9 x10) 3 (by decide) x), fun x => (congrFun (raw17 2 (by decide)) x).trans (embR (val17 i x0 x1 x2 x3 x4 x5 x6 x7 x8 x9 x10) 2 (by decide) x), fun x => (congrFun (raw17 1 (by decide)) x).trans (embR (val17 i x0 x1 x2 x3 x4 x5 x6 x7 x8 x9 x10) 1 (by decide) x), fun x => (congrFun (raw17 0 (by decide)) x).trans (embR (val17 i x0 x1 x2 x3 x4 x5 x6 x7 x8 x9 x10) 0 (by decide) x), fun _ h => absurd h List.not_mem_nil⟩

end

end Cert.KernelIdeal.Stage
-- ==== Proof.KernArr.lean ====
/- The arrays that the kernel's run leaves, at an index, as the stages of the arguments' rows. -/
module

public import proofs.«01_k».proof.Proof.KernOut
public import proofs.«01_k».proof.Proof.Gen.KernelIdeal.Value

@[expose] public section

set_option maxRecDepth 16384

noncomputable section

namespace Cert.KernelIdeal.Stage

open Idealize.ShloMosaic Idealize.ShloMosaic.TcCoe Cert.KernelIdeal Cert.KernelIdeal.Gen Hedgehog

/-- The grid point of head `h`. -/
def pt (h : Fin 18) : Fin cfg0.N := ⟨h.val, h.isLt⟩

theorem coord (h : Fin 18) : grid0.coords (pt h) 0 = h := Fin.ext ((by decide +kernel : ∀ h : Fin 18, (grid0.coords (pt h) 0).val = h.val) h)

/-- The rows of batch `b` and head `h` of an argument, as the blocks the body computes on. -/
def argB {e : EltTy} (X : Vec Ideal S8x256x18x160 e) (b : Fin 8) (h : Fin 18) : Vec Ideal S1x1x160x256 e := fun x => X (ix4 b (x 3) h (x 2))
def argW {e : EltTy} (X : Vec Ideal S18x160x48 e) (h : Fin 18) : Vec Ideal S1x48x160 e := fun x => X (ix3 h (x 2) (x 1))
def argH (X : Vec Ideal S18x48 .f32) (h : Fin 18) : Vec Ideal S1x48 .f32 := fun x => X (ix2 h (x 1))
def argS (X : Vec Ideal S8x18x96x160 .f32) (b : Fin 8) (h : Fin 18) : Vec Ideal S1x1x160x96 .f32 := fun x => X (ix4 b h (x 3) (x 2))
def argZ (X : Vec Ideal S8x18x96 .f32) (b : Fin 8) (h : Fin 18) : Vec Ideal S1x1x96 .f32 := fun x => X (ix3 b h (x 2))

variable (m : (ℓ : Loc nD τ sig) → Buf (Elt Ideal) ℓ) (c : Dev nD)
abbrev a0 : Vec Ideal S8x256x18x160 .bf16 := m ((c : Thread nD τ).loc main_arg0)
abbrev a1 : Vec Ideal S8x256x18x160 .bf16 := m ((c : Thread nD τ).loc main_arg1)
abbrev a2 : Vec Ideal S8x256x18x160 .bf16 := m ((c : Thread nD τ).loc main_arg2)
abbrev a3 : Vec Ideal S18x160x48 .fp8e4m3 := m ((c : Thread nD τ).loc main_arg3)
abbrev a4 : Vec Ideal S18x48 .f32 := m ((c : Thread nD τ).loc main_arg4)
abbrev a5 : Vec Ideal S18x160x48 .fp8e4m3 := m ((c : Thread nD τ).loc main_arg5)
abbrev a6 : Vec Ideal S18x48 .f32 := m ((c : Thread nD τ).loc main_arg6)
abbrev a7 : Vec Ideal S18x48 .f32 := m ((c : Thread nD τ).loc main_arg7)
abbrev a8 : Vec Ideal S18x48 .f32 := m ((c : Thread nD τ).loc main_arg8)
abbrev a9 : Vec Ideal S8x18x96x160 .f32 := m ((c : Thread nD τ).loc main_arg9)
abbrev a10 : Vec Ideal S8x18x96 .f32 := m ((c : Thread nD τ).loc main_arg10)

theorem V_main_v0 : (V m c main_v0 : Vec Ideal S8x18x160x256 .bf16) = transpose S8x18x160x256 [0, 2, 3, 1] (a0 m c) transposes_S8x256x18x160_S8x18x160x256_0_2_3_1 := by
  show StableHlo.after hostOps0 (fun b => m (c, b)) (Proc.devRef .tc main_v0) = _
  unfold hostOps0
  after_results

theorem V_main_v1 : (V m c main_v1 : Vec Ideal S8x18x160x256 .bf16) = transpose S8x18x160x256 [0, 2, 3, 1] (a1 m c) transposes_S8x256x18x160_S8x18x160x256_0_2_3_1 := by
  show StableHlo.after hostOps0 (fun b => m (c, b)) (Proc.devRef .tc main_v1) = _
  unfold hostOps0
  after_results

theorem V_main_v2 : (V m c main_v2 : Vec Ideal S8x18x160x256 .bf16) = transpose S8x18x160x256 [0, 2, 3, 1] (a2 m c) transposes_S8x256x18x160_S8x18x160x256_0_2_3_1 := by
  show StableHlo.after hostOps0 (fun b => m (c, b)) (Proc.devRef .tc main_v2) = _
  unfold hostOps0
  after_results

theorem V_main_v3 : (V m c main_v3 : Vec Ideal S18x48x160 .fp8e4m3) = transpose S18x48x160 [0, 2, 1] (a3 m c) transposes_S18x160x48_S18x48x160_0_2_1 := by
  show StableHlo.after hostOps0 (fun b => m (c, b)) (Proc.devRef .tc main_v3) = _
  unfold hostOps0
  after_results

theorem V_main_v4 : (V m c main_v4 : Vec Ideal S18x48x160 .fp8e4m3) = transpose S18x48x160 [0, 2, 1] (a5 m c) transposes_S18x160x48_S18x48x160_0_2_1 := by
  show StableHlo.after hostOps0 (fun b => m (c, b)) (Proc.devRef .tc main_v4) = _
  unfold hostOps0
  after_results

theorem V_main_v5 : (V m c main_v5 : Vec Ideal S8x18x160x96 .f32) = transpose S8x18x160x96 [0, 1, 3, 2] (a9 m c) transposes_S8x18x96x160_S8x18x160x96_0_1_3_2 := by
  show StableHlo.after hostOps0 (fun b => m (c, b)) (Proc.devRef .tc main_v5) = _
  unfold hostOps0
  after_results

theorem V_main_v6 : (V m c main_v6 : Vec Ideal S18x8x96 .f32) = transpose S18x8x96 [1, 0, 2] (a10 m c) transposes_S8x18x96_S18x8x96_1_0_2 := by
  show StableHlo.after hostOps0 (fun b => m (c, b)) (Proc.devRef .tc main_v6) = _
  unfold hostOps0
  after_results

theorem idx0 : ∀ h : Fin 18, win0_0.index (pt h) (0 : Fin 4) = 0 ∧ win0_0.index (pt h) (1 : Fin 4) = h.val ∧ win0_0.index (pt h) (2 : Fin 4) = 0 ∧ win0_0.index (pt h) (3 : Fin 4) = 0 := by decide +kernel

theorem emb0 (h : Fin 18) (y : S8x1x160x256.Idx) : ((cfg0.win 0).blk (pt h)).view.emb y = (ix4 (y 0) h (y 2) (y 3) : S8x18x160x256.Idx) := by
  obtain ⟨e0, e1, e2, e3⟩ := idx0 h
  funext a; apply Fin.ext
  match a with
  | ⟨0, _⟩ => show win0_0.index (pt h) (0 : Fin 4) * 8 + 1 * (y 0).val = (y 0).val; omega
  | ⟨1, _⟩ =>
    have hy : (y 1).val < 1 := (y 1).isLt
    show win0_0.index (pt h) (1 : Fin 4) * 1 + 1 * (y 1).val = h.val; omega
  | ⟨2, _⟩ => show win0_0.index (pt h) (2 : Fin 4) * 160 + 1 * (y 2).val = (y 2).val; omega
  | ⟨3, _⟩ => show win0_0.index (pt h) (3 : Fin 4) * 256 + 1 * (y 3).val = (y 3).val; omega

theorem idx1 : ∀ h : Fin 18, win0_1.index (pt h) (0 : Fin 4) = 0 ∧ win0_1.index (pt h) (1 : Fin 4) = h.val ∧ win0_1.index (pt h) (2 : Fin 4) = 0 ∧ win0_1.index (pt h) (3 : Fin 4) = 0 := by decide +kernel

theorem emb1 (h : Fin 18) (y : S8x1x160x256.Idx) : ((cfg0.win 1).blk (pt h)).view.emb y = (ix4 (y 0) h (y 2) (y 3) : S8x18x160x256.Idx) := by
  obtain ⟨e0, e1, e2, e3⟩ := idx1 h
  funext a; apply Fin.ext
  match a with
  | ⟨0, _⟩ => show win0_1.index (pt h) (0 : Fin 4) * 8 + 1 * (y 0).val = (y 0).val; omega
  | ⟨1, _⟩ =>
    have hy : (y 1).val < 1 := (y 1).isLt
    show win0_1.index (pt h) (1 : Fin 4) * 1 + 1 * (y 1).val = h.val; omega
  | ⟨2, _⟩ => show win0_1.index (pt h) (2 : Fin 4) * 160 + 1 * (y 2).val = (y 2).val; omega
  | ⟨3, _⟩ => show win0_1.index (pt h) (3 : Fin 4) * 256 + 1 * (y 3).val = (y 3).val; omega

theorem idx2 : ∀ h : Fin 18, win0_2.index (pt h) (0 : Fin 4) = 0 ∧ win0_2.index (pt h) (1 : Fin 4) = h.val ∧ win0_2.index (pt h) (2 : Fin 4) = 0 ∧ win0_2.index (pt h) (3 : Fin 4) = 0 := by decide +kernel

theorem emb2 (h : Fin 18) (y : S8x1x160x256.Idx) : ((cfg0.win 2).blk (pt h)).view.emb y = (ix4 (y 0) h (y 2) (y 3) : S8x18x160x256.Idx) := by
  obtain ⟨e0, e1, e2, e3⟩ := idx2 h
  funext a; apply Fin.ext
  match a with
  | ⟨0, _⟩ => show win0_2.index (pt h) (0 : Fin 4) * 8 + 1 * (y 0).val = (y 0).val; omega
  | ⟨1, _⟩ =>
    have hy : (y 1).val < 1 := (y 1).isLt
    show win0_2.index (pt h) (1 : Fin 4) * 1 + 1 * (y 1).val = h.val; omega
  | ⟨2, _⟩ => show win0_2.index (pt h) (2 : Fin 4) * 160 + 1 * (y 2).val = (y 2).val; omega
  | ⟨3, _⟩ => show win0_2.index (pt h) (3 : Fin 4) * 256 + 1 * (y 3).val = (y 3).val; omega

theorem idx3 : ∀ h : Fin 18, win0_3.index (pt h) (0 : Fin 3) = h.val ∧ win0_3.index (pt h) (1 : Fin 3) = 0 ∧ win0_3.index (pt h) (2 : Fin 3) = 0 := by decide +kernel

theorem emb3 (h : Fin 18) (y : S1x48x160.Idx) : ((cfg0.win 3).blk (pt h)).view.emb y = (ix3 h (y 1) (y 2) : S18x48x160.Idx) := by
  obtain ⟨e0, e1, e2⟩ := idx3 h
  funext a; apply Fin.ext
  match a with
  | ⟨0, _⟩ =>
    have hy : (y 0).val < 1 := (y 0).isLt
    show win0_3.index (pt h) (0 : Fin 3) * 1 + 1 * (y 0).val = h.val; omega
  | ⟨1, _⟩ => show win0_3.index (pt h) (1 : Fin 3) * 48 + 1 * (y 1).val = (y 1).val; omega
  | ⟨2, _⟩ => show win0_3.index (pt h) (2 : Fin 3) * 160 + 1 * (y 2).val = (y 2).val; omega

theorem idx4 : ∀ h : Fin 18, win0_4.index (pt h) (0 : Fin 2) = 0 ∧ win0_4.index (pt h) (1 : Fin 2) = 0 := by decide +kernel

theorem emb4 (h : Fin 18) (y : S18x48.Idx) : ((cfg0.win 4).blk (pt h)).view.emb y = (ix2 (y 0) (y 1) : S18x48.Idx) := by
  obtain ⟨e0, e1⟩ := idx4 h
  funext a; apply Fin.ext
  match a with
  | ⟨0, _⟩ => show win0_4.index (pt h) (0 : Fin 2) * 18 + 1 * (y 0).val = (y 0).val; omega
  | ⟨1, _⟩ => show win0_4.index (pt h) (1 : Fin 2) * 48 + 1 * (y 1).val = (y 1).val; omega

theorem idx5 : ∀ h : Fin 18, win0_5.index (pt h) (0 : Fin 3) = h.val ∧ win0_5.index (pt h) (1 : Fin 3) = 0 ∧ win0_5.index (pt h) (2 : Fin 3) = 0 := by decide +kernel

theorem emb5 (h : Fin 18) (y : S1x48x160.Idx) : ((cfg0.win 5).blk (pt h)).view.emb y = (ix3 h (y 1) (y 2) : S18x48x160.Idx) := by
  obtain ⟨e0, e1, e2⟩ := idx5 h
  funext a; apply Fin.ext
  match a with
  | ⟨0, _⟩ =>
    have hy : (y 0).val < 1 := (y 0).isLt
    show win0_5.index (pt h) (0 : Fin 3) * 1 + 1 * (y 0).val = h.val; omega
  | ⟨1, _⟩ => show win0_5.index (pt h) (1 : Fin 3) * 48 + 1 * (y 1).val = (y 1).val; omega
  | ⟨2, _⟩ => show win0_5.index (pt h) (2 : Fin 3) * 160 + 1 * (y 2).val = (y 2).val; omega

theorem idx6 : ∀ h : Fin 18, win0_6.index (pt h) (0 : Fin 2) = 0 ∧ win0_6.index (pt h) (1 : Fin 2) = 0 := by decide +kernel

theorem emb6 (h : Fin 18) (y : S18x48.Idx) : ((cfg0.win 6).blk (pt h)).view.emb y = (ix2 (y 0) (y 1) : S18x48.Idx) := by
  obtain ⟨e0, e1⟩ := idx6 h
  funext a; apply Fin.ext
  match a with
  | ⟨0, _⟩ => show win0_6.index (pt h) (0 : Fin 2) * 18 + 1 * (y 0).val = (y 0).val; omega
  | ⟨1, _⟩ => show win0_6.index (pt h) (1 : Fin 2) * 48 + 1 * (y 1).val = (y 1).val; omega

theorem idx7 : ∀ h : Fin 18, win0_7.index (pt h) (0 : Fin 2) = 0 ∧ win0_7.index (pt h) (1 : Fin 2) = 0 := by decide +kernel

theorem emb7 (h : Fin 18) (y : S18x48.Idx) : ((cfg0.win 7).blk (pt h)).view.emb y = (ix2 (y 0) (y 1) : S18x48.Idx) := by
  obtain ⟨e0, e1⟩ := idx7 h
  funext a; apply Fin.ext
  match a with
  | ⟨0, _⟩ => show win0_7.index (pt h) (0 : Fin 2) * 18 + 1 * (y 0).val = (y 0).val; omega
  | ⟨1, _⟩ => show win0_7.index (pt h) (1 : Fin 2) * 48 + 1 * (y 1).val = (y 1).val; omega

theorem idx8 : ∀ h : Fin 18, win0_8.index (pt h) (0 : Fin 2) = 0 ∧ win0_8.index (pt h) (1 : Fin 2) = 0 := by decide +kernel

theorem emb8 (h : Fin 18) (y : S18x48.Idx) : ((cfg0.win 8).blk (pt h)).view.emb y = (ix2 (y 0) (y 1) : S18x48.Idx) := by
  obtain ⟨e0, e1⟩ := idx8 h
  funext a; apply Fin.ext
  match a with
  | ⟨0, _⟩ => show win0_8.index (pt h) (0 : Fin 2) * 18 + 1 * (y 0).val = (y 0).val; omega
  | ⟨1, _⟩ => show win0_8.index (pt h) (1 : Fin 2) * 48 + 1 * (y 1).val = (y 1).val; omega

theorem idx9 : ∀ h : Fin 18, win0_9.index (pt h) (0 : Fin 4) = 0 ∧ win0_9.index (pt h) (1 : Fin 4) = h.val ∧ win0_9.index (pt h) (2 : Fin 4) = 0 ∧ win0_9.index (pt h) (3 : Fin 4) = 0 := by decide +kernel

theorem emb9 (h : Fin 18) (y : S8x1x160x96.Idx) : ((cfg0.win 9).blk (pt h)).view.emb y = (ix4 (y 0) h (y 2) (y 3) : S8x18x160x96.Idx) := by
  obtain ⟨e0, e1, e2, e3⟩ := idx9 h
  funext a; apply Fin.ext
  match a with
  | ⟨0, _⟩ => show win0_9.index (pt h) (0 : Fin 4) * 8 + 1 * (y 0).val = (y 0).val; omega
  | ⟨1, _⟩ =>
    have hy : (y 1).val < 1 := (y 1).isLt
    show win0_9.index (pt h) (1 : Fin 4) * 1 + 1 * (y 1).val = h.val; omega
  | ⟨2, _⟩ => show win0_9.index (pt h) (2 : Fin 4) * 160 + 1 * (y 2).val = (y 2).val; omega
  | ⟨3, _⟩ => show win0_9.index (pt h) (3 : Fin 4) * 96 + 1 * (y 3).val = (y 3).val; omega

theorem idx10 : ∀ h : Fin 18, win0_10.index (pt h) (0 : Fin 3) = h.val ∧ win0_10.index (pt h) (1 : Fin 3) = 0 ∧ win0_10.index (pt h) (2 : Fin 3) = 0 := by decide +kernel

theorem emb10 (h : Fin 18) (y : S1x8x96.Idx) : ((cfg0.win 10).blk (pt h)).view.emb y = (ix3 h (y 1) (y 2) : S18x8x96.Idx) := by
  obtain ⟨e0, e1, e2⟩ := idx10 h
  funext a; apply Fin.ext
  match a with
  | ⟨0, _⟩ =>
    have hy : (y 0).val < 1 := (y 0).isLt
    show win0_10.index (pt h) (0 : Fin 3) * 1 + 1 * (y 0).val = h.val; omega
  | ⟨1, _⟩ => show win0_10.index (pt h) (1 : Fin 3) * 8 + 1 * (y 1).val = (y 1).val; omega
  | ⟨2, _⟩ => show win0_10.index (pt h) (2 : Fin 3) * 96 + 1 * (y 2).val = (y 2).val; omega

theorem idx11 : ∀ h : Fin 18, win0_11.index (pt h) (0 : Fin 4) = 0 ∧ win0_11.index (pt h) (1 : Fin 4) = h.val ∧ win0_11.index (pt h) (2 : Fin 4) = 0 ∧ win0_11.index (pt h) (3 : Fin 4) = 0 := by decide +kernel

theorem emb11 (h : Fin 18) (y : S8x1x160x256.Idx) : ((cfg0.win 11).blk (pt h)).view.emb y = (ix4 (y 0) h (y 2) (y 3) : S8x18x160x256.Idx) := by
  obtain ⟨e0, e1, e2, e3⟩ := idx11 h
  funext a; apply Fin.ext
  match a with
  | ⟨0, _⟩ => show win0_11.index (pt h) (0 : Fin 4) * 8 + 1 * (y 0).val = (y 0).val; omega
  | ⟨1, _⟩ =>
    have hy : (y 1).val < 1 := (y 1).isLt
    show win0_11.index (pt h) (1 : Fin 4) * 1 + 1 * (y 1).val = h.val; omega
  | ⟨2, _⟩ => show win0_11.index (pt h) (2 : Fin 4) * 160 + 1 * (y 2).val = (y 2).val; omega
  | ⟨3, _⟩ => show win0_11.index (pt h) (3 : Fin 4) * 256 + 1 * (y 3).val = (y 3).val; omega

theorem idx12 : ∀ h : Fin 18, win0_12.index (pt h) (0 : Fin 4) = 0 ∧ win0_12.index (pt h) (1 : Fin 4) = h.val ∧ win0_12.index (pt h) (2 : Fin 4) = 0 ∧ win0_12.index (pt h) (3 : Fin 4) = 0 := by decide +kernel

theorem emb12 (h : Fin 18) (y : S8x1x160x96.Idx) : ((cfg0.win 12).blk (pt h)).view.emb y = (ix4 (y 0) h (y 2) (y 3) : S8x18x160x96.Idx) := by
  obtain ⟨e0, e1, e2, e3⟩ := idx12 h
  funext a; apply Fin.ext
  match a with
  | ⟨0, _⟩ => show win0_12.index (pt h) (0 : Fin 4) * 8 + 1 * (y 0).val = (y 0).val; omega
  | ⟨1, _⟩ =>
    have hy : (y 1).val < 1 := (y 1).isLt
    show win0_12.index (pt h) (1 : Fin 4) * 1 + 1 * (y 1).val = h.val; omega
  | ⟨2, _⟩ => show win0_12.index (pt h) (2 : Fin 4) * 160 + 1 * (y 2).val = (y 2).val; omega
  | ⟨3, _⟩ => show win0_12.index (pt h) (3 : Fin 4) * 96 + 1 * (y 3).val = (y 3).val; omega

theorem idx13 : ∀ h : Fin 18, win0_13.index (pt h) (0 : Fin 3) = h.val ∧ win0_13.index (pt h) (1 : Fin 3) = 0 ∧ win0_13.index (pt h) (2 : Fin 3) = 0 := by decide +kernel

theorem emb13 (h : Fin 18) (y : S1x8x96.Idx) : ((cfg0.win 13).blk (pt h)).view.emb y = (ix3 h (y 1) (y 2) : S18x8x96.Idx) := by
  obtain ⟨e0, e1, e2⟩ := idx13 h
  funext a; apply Fin.ext
  match a with
  | ⟨0, _⟩ =>
    have hy : (y 0).val < 1 := (y 0).isLt
    show win0_13.index (pt h) (0 : Fin 3) * 1 + 1 * (y 0).val = h.val; omega
  | ⟨1, _⟩ => show win0_13.index (pt h) (1 : Fin 3) * 8 + 1 * (y 1).val = (y 1).val; omega
  | ⟨2, _⟩ => show win0_13.index (pt h) (2 : Fin 3) * 96 + 1 * (y 2).val = (y 2).val; omega

theorem idx14 : ∀ h : Fin 18, win0_14.index (pt h) (0 : Fin 4) = 0 ∧ win0_14.index (pt h) (1 : Fin 4) = h.val ∧ win0_14.index (pt h) (2 : Fin 4) = 0 ∧ win0_14.index (pt h) (3 : Fin 4) = 0 := by decide +kernel

theorem emb14 (h : Fin 18) (y : S8x1x160x256.Idx) : ((cfg0.win 14).blk (pt h)).view.emb y = (ix4 (y 0) h (y 2) (y 3) : S8x18x160x256.Idx) := by
  obtain ⟨e0, e1, e2, e3⟩ := idx14 h
  funext a; apply Fin.ext
  match a with
  | ⟨0, _⟩ => show win0_14.index (pt h) (0 : Fin 4) * 8 + 1 * (y 0).val = (y 0).val; omega
  | ⟨1, _⟩ =>
    have hy : (y 1).val < 1 := (y 1).isLt
    show win0_14.index (pt h) (1 : Fin 4) * 1 + 1 * (y 1).val = h.val; omega
  | ⟨2, _⟩ => show win0_14.index (pt h) (2 : Fin 4) * 160 + 1 * (y 2).val = (y 2).val; omega
  | ⟨3, _⟩ => show win0_14.index (pt h) (3 : Fin 4) * 256 + 1 * (y 3).val = (y 3).val; omega

theorem idx15 : ∀ h : Fin 18, win0_15.index (pt h) (0 : Fin 3) = h.val ∧ win0_15.index (pt h) (1 : Fin 3) = 0 ∧ win0_15.index (pt h) (2 : Fin 3) = 0 := by decide +kernel

theorem emb15 (h : Fin 18) (y : S1x8x256.Idx) : ((cfg0.win 15).blk (pt h)).view.emb y = (ix3 h (y 1) (y 2) : S18x8x256.Idx) := by
  obtain ⟨e0, e1, e2⟩ := idx15 h
  funext a; apply Fin.ext
  match a with
  | ⟨0, _⟩ =>
    have hy : (y 0).val < 1 := (y 0).isLt
    show win0_15.index (pt h) (0 : Fin 3) * 1 + 1 * (y 0).val = h.val; omega
  | ⟨1, _⟩ => show win0_15.index (pt h) (1 : Fin 3) * 8 + 1 * (y 1).val = (y 1).val; omega
  | ⟨2, _⟩ => show win0_15.index (pt h) (2 : Fin 3) * 256 + 1 * (y 2).val = (y 2).val; omega

theorem idx16 : ∀ h : Fin 18, win0_16.index (pt h) (0 : Fin 4) = 0 ∧ win0_16.index (pt h) (1 : Fin 4) = h.val ∧ win0_16.index (pt h) (2 : Fin 4) = 0 ∧ win0_16.index (pt h) (3 : Fin 4) = 0 := by decide +kernel

theorem emb16 (h : Fin 18) (y : S8x1x160x256.Idx) : ((cfg0.win 16).blk (pt h)).view.emb y = (ix4 (y 0) h (y 2) (y 3) : S8x18x160x256.Idx) := by
  obtain ⟨e0, e1, e2, e3⟩ := idx16 h
  funext a; apply Fin.ext
  match a with
  | ⟨0, _⟩ => show win0_16.index (pt h) (0 : Fin 4) * 8 + 1 * (y 0).val = (y 0).val; omega
  | ⟨1, _⟩ =>
    have hy : (y 1).val < 1 := (y 1).isLt
    show win0_16.index (pt h) (1 : Fin 4) * 1 + 1 * (y 1).val = h.val; omega
  | ⟨2, _⟩ => show win0_16.index (pt h) (2 : Fin 4) * 160 + 1 * (y 2).val = (y 2).val; omega
  | ⟨3, _⟩ => show win0_16.index (pt h) (3 : Fin 4) * 256 + 1 * (y 3).val = (y 3).val; omega

theorem idx17 : ∀ h : Fin 18, win0_17.index (pt h) (0 : Fin 3) = h.val ∧ win0_17.index (pt h) (1 : Fin 3) = 0 ∧ win0_17.index (pt h) (2 : Fin 3) = 0 := by decide +kernel

theorem emb17 (h : Fin 18) (y : S1x8x256.Idx) : ((cfg0.win 17).blk (pt h)).view.emb y = (ix3 h (y 1) (y 2) : S18x8x256.Idx) := by
  obtain ⟨e0, e1, e2⟩ := idx17 h
  funext a; apply Fin.ext
  match a with
  | ⟨0, _⟩ =>
    have hy : (y 0).val < 1 := (y 0).isLt
    show win0_17.index (pt h) (0 : Fin 3) * 1 + 1 * (y 0).val = h.val; omega
  | ⟨1, _⟩ => show win0_17.index (pt h) (1 : Fin 3) * 8 + 1 * (y 1).val = (y 1).val; omega
  | ⟨2, _⟩ => show win0_17.index (pt h) (2 : Fin 3) * 256 + 1 * (y 2).val = (y 2).val; omega

theorem in0 (h : Fin 18) (b : Fin 8) : rowB (iblk m c 0 (pt h)) b = argB (a0 m c) b h := by
  funext x
  show (V m c main_v0 : Vec Ideal S8x18x160x256 _) (((cfg0.win 0).blk (pt h)).view.emb (ix4 b 0 (x 2) (x 3))) = _
  rw [emb0, V_main_v0]
  pointwise [argB]

theorem in1 (h : Fin 18) (b : Fin 8) : rowB (iblk m c 1 (pt h)) b = argB (a1 m c) b h := by
  funext x
  show (V m c main_v1 : Vec Ideal S8x18x160x256 _) (((cfg0.win 1).blk (pt h)).view.emb (ix4 b 0 (x 2) (x 3))) = _
  rw [emb1, V_main_v1]
  pointwise [argB]

theorem in2 (h : Fin 18) (b : Fin 8) : rowB (iblk m c 2 (pt h)) b = argB (a2 m c) b h := by
  funext x
  show (V m c main_v2 : Vec Ideal S8x18x160x256 _) (((cfg0.win 2).blk (pt h)).view.emb (ix4 b 0 (x 2) (x 3))) = _
  rw [emb2, V_main_v2]
  pointwise [argB]

theorem in3 (h : Fin 18) : (iblk m c 3 (pt h) : Vec Ideal S1x48x160 .fp8e4m3) = argW (a3 m c) h := by
  funext x
  show (V m c main_v3 : Vec Ideal S18x48x160 _) (((cfg0.win 3).blk (pt h)).view.emb (x)) = _
  rw [emb3, V_main_v3]
  pointwise [argW]

theorem in4 (h : Fin 18) : headRow (iblk m c 4 (pt h)) (grid0.coords (pt h)) = argH (a4 m c) h := by
  funext x
  show (V m c main_arg4 : Vec Ideal S18x48 _) (((cfg0.win 4).blk (pt h)).view.emb (ix2 (grid0.coords (pt h) 0) (x 1))) = _
  rw [emb4, V_main_arg4]
  rw [coord]; rfl

theorem in5 (h : Fin 18) : (iblk m c 5 (pt h) : Vec Ideal S1x48x160 .fp8e4m3) = argW (a5 m c) h := by
  funext x
  show (V m c main_v4 : Vec Ideal S18x48x160 _) (((cfg0.win 5).blk (pt h)).view.emb (x)) = _
  rw [emb5, V_main_v4]
  pointwise [argW]

theorem in6 (h : Fin 18) : headRow (iblk m c 6 (pt h)) (grid0.coords (pt h)) = argH (a6 m c) h := by
  funext x
  show (V m c main_arg6 : Vec Ideal S18x48 _) (((cfg0.win 6).blk (pt h)).view.emb (ix2 (grid0.coords (pt h) 0) (x 1))) = _
  rw [emb6, V_main_arg6]
  rw [coord]; rfl

theorem in7 (h : Fin 18) : headRow (iblk m c 7 (pt h)) (grid0.coords (pt h)) = argH (a7 m c) h := by
  funext x
  show (V m c main_arg7 : Vec Ideal S18x48 _) (((cfg0.win 7).blk (pt h)).view.emb (ix2 (grid0.coords (pt h) 0) (x 1))) = _
  rw [emb7, V_main_arg7]
  rw [coord]; rfl

theorem in8 (h : Fin 18) : headRow (iblk m c 8 (pt h)) (grid0.coords (pt h)) = argH (a8 m c) h := by
  funext x
  show (V m c main_arg8 : Vec Ideal S18x48 _) (((cfg0.win 8).blk (pt h)).view.emb (ix2 (grid0.coords (pt h) 0) (x 1))) = _
  rw [emb8, V_main_arg8]
  rw [coord]; rfl

theorem in9 (h : Fin 18) (b : Fin 8) : rowS (iblk m c 9 (pt h)) b = argS (a9 m c) b h := by
  funext x
  show (V m c main_v5 : Vec Ideal S8x18x160x96 _) (((cfg0.win 9).blk (pt h)).view.emb (ix4 b 0 (x 2) (x 3))) = _
  rw [emb9, V_main_v5]
  pointwise [argS]

theorem in10 (h : Fin 18) (b : Fin 8) : rowZ (iblk m c 10 (pt h)) b = argZ (a10 m c) b h := by
  funext x
  show (V m c main_v6 : Vec Ideal S18x8x96 _) (((cfg0.win 10).blk (pt h)).view.emb (ix3 0 b (x 2))) = _
  rw [emb10, V_main_v6]
  pointwise [argZ]

theorem arr11 (b : Fin 8) (h : Fin 18) (d : Fin 160) (t : Fin 256) : (dats m 0 c).arrAt 11 cfg0.N (ix4 b h d t : S8x18x160x256.Idx) = (yOf (feat (argB (a0 m c) b h) (argW (a3 m c) h) (argH (a4 m c) h) (argH (a7 m c) h)) (feat (argB (a1 m c) b h) (argW (a5 m c) h) (argH (a6 m c) h) (argH (a8 m c) h)) (argB (a2 m c) b h) (argS (a9 m c) b h) (argZ (a10 m c) b h)) (ix4 0 0 d t) := by
  have e := congrFun (Cert.KernelIdeal.Value.blocks11 m c (pt h) (flush0_11 _)) (ix4 b 0 d t : S8x1x160x256.Idx)
  rw [Cert.KernelIdeal.Value.flushed11_A] at e
  have e' : (dats m 0 c).arrAt 11 cfg0.N (((cfg0.win 11).blk (pt h)).view.emb (ix4 b 0 d t : S8x1x160x256.Idx)) = out0_A_11 c (grid0.coords (pt h)) (ms0_0 (pt h)) (hs0_0 (pt h)) (ms0_1 (pt h)) (hs0_1 (pt h)) (ms0_2 (pt h)) (hs0_2 (pt h)) (ms0_3 (pt h)) (hs0_3 (pt h)) (ms0_4 (pt h)) (hs0_4 (pt h)) (ms0_5 (pt h)) (hs0_5 (pt h)) (ms0_6 (pt h)) (hs0_6 (pt h)) (ms0_7 (pt h)) (hs0_7 (pt h)) (ms0_8 (pt h)) (hs0_8 (pt h)) (ms0_9 (pt h)) (hs0_9 (pt h)) (ms0_10 (pt h)) (hs0_10 (pt h)) (ms0_11 (pt h)) (hs0_11 (pt h)) (ms0_12 (pt h)) (hs0_12 (pt h)) (ms0_13 (pt h)) (hs0_13 (pt h)) (ms0_14 (pt h)) (hs0_14 (pt h)) (ms0_15 (pt h)) (hs0_15 (pt h)) (ms0_16 (pt h)) (hs0_16 (pt h)) (ms0_17 (pt h)) (hs0_17 (pt h)) (iblk m c 0 (pt h)) (iblk m c 1 (pt h)) (iblk m c 2 (pt h)) (iblk m c 3 (pt h)) (iblk m c 4 (pt h)) (iblk m c 5 (pt h)) (iblk m c 6 (pt h)) (iblk m c 7 (pt h)) (iblk m c 8 (pt h)) (iblk m c 9 (pt h)) (iblk m c 10 (pt h)) (ix4 b 0 d t : S8x1x160x256.Idx) := e
  rw [emb11, out11] at e'
  refine e'.trans ?_
  show val11 _ _ _ _ _ _ _ _ _ _ _ _ b (ix4 0 0 d t) = _
  unfold val11
  rw [in0, in1, in2, in3, in4, in5, in6, in7, in8, in9, in10]

theorem arr12 (b : Fin 8) (h : Fin 18) (d : Fin 160) (t : Fin 96) : (dats m 0 c).arrAt 12 cfg0.N (ix4 b h d t : S8x18x160x96.Idx) = (sfK (argS (a9 m c) b h) (dsK (argB (a2 m c) b h) (feat (argB (a1 m c) b h) (argW (a5 m c) h) (argH (a6 m c) h) (argH (a8 m c) h)))) (ix4 0 0 d t) := by
  have e := congrFun (Cert.KernelIdeal.Value.blocks12 m c (pt h) (flush0_12 _)) (ix4 b 0 d t : S8x1x160x96.Idx)
  rw [Cert.KernelIdeal.Value.flushed12_A] at e
  have e' : (dats m 0 c).arrAt 12 cfg0.N (((cfg0.win 12).blk (pt h)).view.emb (ix4 b 0 d t : S8x1x160x96.Idx)) = out0_A_12 c (grid0.coords (pt h)) (ms0_0 (pt h)) (hs0_0 (pt h)) (ms0_1 (pt h)) (hs0_1 (pt h)) (ms0_2 (pt h)) (hs0_2 (pt h)) (ms0_3 (pt h)) (hs0_3 (pt h)) (ms0_4 (pt h)) (hs0_4 (pt h)) (ms0_5 (pt h)) (hs0_5 (pt h)) (ms0_6 (pt h)) (hs0_6 (pt h)) (ms0_7 (pt h)) (hs0_7 (pt h)) (ms0_8 (pt h)) (hs0_8 (pt h)) (ms0_9 (pt h)) (hs0_9 (pt h)) (ms0_10 (pt h)) (hs0_10 (pt h)) (ms0_11 (pt h)) (hs0_11 (pt h)) (ms0_12 (pt h)) (hs0_12 (pt h)) (ms0_13 (pt h)) (hs0_13 (pt h)) (ms0_14 (pt h)) (hs0_14 (pt h)) (ms0_15 (pt h)) (hs0_15 (pt h)) (ms0_16 (pt h)) (hs0_16 (pt h)) (ms0_17 (pt h)) (hs0_17 (pt h)) (iblk m c 0 (pt h)) (iblk m c 1 (pt h)) (iblk m c 2 (pt h)) (iblk m c 3 (pt h)) (iblk m c 4 (pt h)) (iblk m c 5 (pt h)) (iblk m c 6 (pt h)) (iblk m c 7 (pt h)) (iblk m c 8 (pt h)) (iblk m c 9 (pt h)) (iblk m c 10 (pt h)) (ix4 b 0 d t : S8x1x160x96.Idx) := e
  rw [emb12, out12] at e'
  refine e'.trans ?_
  show val12 _ _ _ _ _ _ _ _ _ _ _ _ b (ix4 0 0 d t) = _
  unfold val12
  rw [in1, in2, in5, in6, in8, in9]

theorem arr13 (b : Fin 8) (h : Fin 18) (t : Fin 96) : (dats m 0 c).arrAt 13 cfg0.N (ix3 h b t : S18x8x96.Idx) = (zfK (argZ (a10 m c) b h) (dsK (argB (a2 m c) b h) (feat (argB (a1 m c) b h) (argW (a5 m c) h) (argH (a6 m c) h) (argH (a8 m c) h)))) (ix3 0 0 t) := by
  have e := congrFun (Cert.KernelIdeal.Value.blocks13 m c (pt h) (flush0_13 _)) (ix3 0 b t : S1x8x96.Idx)
  rw [Cert.KernelIdeal.Value.flushed13_A] at e
  have e' : (dats m 0 c).arrAt 13 cfg0.N (((cfg0.win 13).blk (pt h)).view.emb (ix3 0 b t : S1x8x96.Idx)) = out0_A_13 c (grid0.coords (pt h)) (ms0_0 (pt h)) (hs0_0 (pt h)) (ms0_1 (pt h)) (hs0_1 (pt h)) (ms0_2 (pt h)) (hs0_2 (pt h)) (ms0_3 (pt h)) (hs0_3 (pt h)) (ms0_4 (pt h)) (hs0_4 (pt h)) (ms0_5 (pt h)) (hs0_5 (pt h)) (ms0_6 (pt h)) (hs0_6 (pt h)) (ms0_7 (pt h)) (hs0_7 (pt h)) (ms0_8 (pt h)) (hs0_8 (pt h)) (ms0_9 (pt h)) (hs0_9 (pt h)) (ms0_10 (pt h)) (hs0_10 (pt h)) (ms0_11 (pt h)) (hs0_11 (pt h)) (ms0_12 (pt h)) (hs0_12 (pt h)) (ms0_13 (pt h)) (hs0_13 (pt h)) (ms0_14 (pt h)) (hs0_14 (pt h)) (ms0_15 (pt h)) (hs0_15 (pt h)) (ms0_16 (pt h)) (hs0_16 (pt h)) (ms0_17 (pt h)) (hs0_17 (pt h)) (iblk m c 0 (pt h)) (iblk m c 1 (pt h)) (iblk m c 2 (pt h)) (iblk m c 3 (pt h)) (iblk m c 4 (pt h)) (iblk m c 5 (pt h)) (iblk m c 6 (pt h)) (iblk m c 7 (pt h)) (iblk m c 8 (pt h)) (iblk m c 9 (pt h)) (iblk m c 10 (pt h)) (ix3 0 b t : S1x8x96.Idx) := e
  rw [emb13, out13] at e'
  refine e'.trans ?_
  show val13 _ _ _ _ _ _ _ _ _ _ _ _ b (ix3 0 0 t) = _
  unfold val13
  rw [in1, in2, in5, in6, in8, in10]

theorem arr14 (b : Fin 8) (h : Fin 18) (d : Fin 160) (t : Fin 256) : (dats m 0 c).arrAt 14 cfg0.N (ix4 b h d t : S8x18x160x256.Idx) = (codeOf (argB (a0 m c) b h)) (ix4 0 0 d t) := by
  have e := congrFun (Cert.KernelIdeal.Value.blocks14 m c (pt h) (flush0_14 _)) (ix4 b 0 d t : S8x1x160x256.Idx)
  rw [Cert.KernelIdeal.Value.flushed14_A] at e
  have e' : (dats m 0 c).arrAt 14 cfg0.N (((cfg0.win 14).blk (pt h)).view.emb (ix4 b 0 d t : S8x1x160x256.Idx)) = out0_A_14 c (grid0.coords (pt h)) (ms0_0 (pt h)) (hs0_0 (pt h)) (ms0_1 (pt h)) (hs0_1 (pt h)) (ms0_2 (pt h)) (hs0_2 (pt h)) (ms0_3 (pt h)) (hs0_3 (pt h)) (ms0_4 (pt h)) (hs0_4 (pt h)) (ms0_5 (pt h)) (hs0_5 (pt h)) (ms0_6 (pt h)) (hs0_6 (pt h)) (ms0_7 (pt h)) (hs0_7 (pt h)) (ms0_8 (pt h)) (hs0_8 (pt h)) (ms0_9 (pt h)) (hs0_9 (pt h)) (ms0_10 (pt h)) (hs0_10 (pt h)) (ms0_11 (pt h)) (hs0_11 (pt h)) (ms0_12 (pt h)) (hs0_12 (pt h)) (ms0_13 (pt h)) (hs0_13 (pt h)) (ms0_14 (pt h)) (hs0_14 (pt h)) (ms0_15 (pt h)) (hs0_15 (pt h)) (ms0_16 (pt h)) (hs0_16 (pt h)) (ms0_17 (pt h)) (hs0_17 (pt h)) (iblk m c 0 (pt h)) (iblk m c 1 (pt h)) (iblk m c 2 (pt h)) (iblk m c 3 (pt h)) (iblk m c 4 (pt h)) (iblk m c 5 (pt h)) (iblk m c 6 (pt h)) (iblk m c 7 (pt h)) (iblk m c 8 (pt h)) (iblk m c 9 (pt h)) (iblk m c 10 (pt h)) (ix4 b 0 d t : S8x1x160x256.Idx) := e
  rw [emb14, out14] at e'
  refine e'.trans ?_
  show val14 _ _ _ _ _ _ _ _ _ _ _ _ b (ix4 0 0 d t) = _
  unfold val14
  rw [in0]

theorem arr15 (b : Fin 8) (h : Fin 18) (t : Fin 256) : (dats m 0 c).arrAt 15 cfg0.N (ix3 h b t : S18x8x256.Idx) = (scaleOf (argB (a0 m c) b h)) (ix3 0 0 t) := by
  have e := congrFun (Cert.KernelIdeal.Value.blocks15 m c (pt h) (flush0_15 _)) (ix3 0 b t : S1x8x256.Idx)
  rw [Cert.KernelIdeal.Value.flushed15_A] at e
  have e' : (dats m 0 c).arrAt 15 cfg0.N (((cfg0.win 15).blk (pt h)).view.emb (ix3 0 b t : S1x8x256.Idx)) = out0_A_15 c (grid0.coords (pt h)) (ms0_0 (pt h)) (hs0_0 (pt h)) (ms0_1 (pt h)) (hs0_1 (pt h)) (ms0_2 (pt h)) (hs0_2 (pt h)) (ms0_3 (pt h)) (hs0_3 (pt h)) (ms0_4 (pt h)) (hs0_4 (pt h)) (ms0_5 (pt h)) (hs0_5 (pt h)) (ms0_6 (pt h)) (hs0_6 (pt h)) (ms0_7 (pt h)) (hs0_7 (pt h)) (ms0_8 (pt h)) (hs0_8 (pt h)) (ms0_9 (pt h)) (hs0_9 (pt h)) (ms0_10 (pt h)) (hs0_10 (pt h)) (ms0_11 (pt h)) (hs0_11 (pt h)) (ms0_12 (pt h)) (hs0_12 (pt h)) (ms0_13 (pt h)) (hs0_13 (pt h)) (ms0_14 (pt h)) (hs0_14 (pt h)) (ms0_15 (pt h)) (hs0_15 (pt h)) (ms0_16 (pt h)) (hs0_16 (pt h)) (ms0_17 (pt h)) (hs0_17 (pt h)) (iblk m c 0 (pt h)) (iblk m c 1 (pt h)) (iblk m c 2 (pt h)) (iblk m c 3 (pt h)) (iblk m c 4 (pt h)) (iblk m c 5 (pt h)) (iblk m c 6 (pt h)) (iblk m c 7 (pt h)) (iblk m c 8 (pt h)) (iblk m c 9 (pt h)) (iblk m c 10 (pt h)) (ix3 0 b t : S1x8x256.Idx) := e
  rw [emb15, out15] at e'
  refine e'.trans ?_
  show val15 _ _ _ _ _ _ _ _ _ _ _ _ b (ix3 0 0 t) = _
  unfold val15
  rw [in0]

theorem arr16 (b : Fin 8) (h : Fin 18) (d : Fin 160) (t : Fin 256) : (dats m 0 c).arrAt 16 cfg0.N (ix4 b h d t : S8x18x160x256.Idx) = (codeOf (argB (a1 m c) b h)) (ix4 0 0 d t) := by
  have e := congrFun (Cert.KernelIdeal.Value.blocks16 m c (pt h) (flush0_16 _)) (ix4 b 0 d t : S8x1x160x256.Idx)
  rw [Cert.KernelIdeal.Value.flushed16_A] at e
  have e' : (dats m 0 c).arrAt 16 cfg0.N (((cfg0.win 16).blk (pt h)).view.emb (ix4 b 0 d t : S8x1x160x256.Idx)) = out0_A_16 c (grid0.coords (pt h)) (ms0_0 (pt h)) (hs0_0 (pt h)) (ms0_1 (pt h)) (hs0_1 (pt h)) (ms0_2 (pt h)) (hs0_2 (pt h)) (ms0_3 (pt h)) (hs0_3 (pt h)) (ms0_4 (pt h)) (hs0_4 (pt h)) (ms0_5 (pt h)) (hs0_5 (pt h)) (ms0_6 (pt h)) (hs0_6 (pt h)) (ms0_7 (pt h)) (hs0_7 (pt h)) (ms0_8 (pt h)) (hs0_8 (pt h)) (ms0_9 (pt h)) (hs0_9 (pt h)) (ms0_10 (pt h)) (hs0_10 (pt h)) (ms0_11 (pt h)) (hs0_11 (pt h)) (ms0_12 (pt h)) (hs0_12 (pt h)) (ms0_13 (pt h)) (hs0_13 (pt h)) (ms0_14 (pt h)) (hs0_14 (pt h)) (ms0_15 (pt h)) (hs0_15 (pt h)) (ms0_16 (pt h)) (hs0_16 (pt h)) (ms0_17 (pt h)) (hs0_17 (pt h)) (iblk m c 0 (pt h)) (iblk m c 1 (pt h)) (iblk m c 2 (pt h)) (iblk m c 3 (pt h)) (iblk m c 4 (pt h)) (iblk m c 5 (pt h)) (iblk m c 6 (pt h)) (iblk m c 7 (pt h)) (iblk m c 8 (pt h)) (iblk m c 9 (pt h)) (iblk m c 10 (pt h)) (ix4 b 0 d t : S8x1x160x256.Idx) := e
  rw [emb16, out16] at e'
  refine e'.trans ?_
  show val16 _ _ _ _ _ _ _ _ _ _ _ _ b (ix4 0 0 d t) = _
  unfold val16
  rw [in1]

theorem arr17 (b : Fin 8) (h : Fin 18) (t : Fin 256) : (dats m 0 c).arrAt 17 cfg0.N (ix3 h b t : S18x8x256.Idx) = (scaleOf (argB (a1 m c) b h)) (ix3 0 0 t) := by
  have e := congrFun (Cert.KernelIdeal.Value.blocks17 m c (pt h) (flush0_17 _)) (ix3 0 b t : S1x8x256.Idx)
  rw [Cert.KernelIdeal.Value.flushed17_A] at e
  have e' : (dats m 0 c).arrAt 17 cfg0.N (((cfg0.win 17).blk (pt h)).view.emb (ix3 0 b t : S1x8x256.Idx)) = out0_A_17 c (grid0.coords (pt h)) (ms0_0 (pt h)) (hs0_0 (pt h)) (ms0_1 (pt h)) (hs0_1 (pt h)) (ms0_2 (pt h)) (hs0_2 (pt h)) (ms0_3 (pt h)) (hs0_3 (pt h)) (ms0_4 (pt h)) (hs0_4 (pt h)) (ms0_5 (pt h)) (hs0_5 (pt h)) (ms0_6 (pt h)) (hs0_6 (pt h)) (ms0_7 (pt h)) (hs0_7 (pt h)) (ms0_8 (pt h)) (hs0_8 (pt h)) (ms0_9 (pt h)) (hs0_9 (pt h)) (ms0_10 (pt h)) (hs0_10 (pt h)) (ms0_11 (pt h)) (hs0_11 (pt h)) (ms0_12 (pt h)) (hs0_12 (pt h)) (ms0_13 (pt h)) (hs0_13 (pt h)) (ms0_14 (pt h)) (hs0_14 (pt h)) (ms0_15 (pt h)) (hs0_15 (pt h)) (ms0_16 (pt h)) (hs0_16 (pt h)) (ms0_17 (pt h)) (hs0_17 (pt h)) (iblk m c 0 (pt h)) (iblk m c 1 (pt h)) (iblk m c 2 (pt h)) (iblk m c 3 (pt h)) (iblk m c 4 (pt h)) (iblk m c 5 (pt h)) (iblk m c 6 (pt h)) (iblk m c 7 (pt h)) (iblk m c 8 (pt h)) (iblk m c 9 (pt h)) (iblk m c 10 (pt h)) (ix3 0 b t : S1x8x256.Idx) := e
  rw [emb17, out17] at e'
  refine e'.trans ?_
  show val17 _ _ _ _ _ _ _ _ _ _ _ _ b (ix3 0 0 t) = _
  unfold val17
  rw [in1]

end Cert.KernelIdeal.Stage
-- ==== Proof.KernVal.lean ====
/- The kernel's results at an index, in the words of the row's codes, scales and features. -/
module

public import proofs.«01_k».proof.Proof.Spec
public import proofs.«01_k».proof.Proof.KernArr

@[expose] public section

set_option maxRecDepth 16384

noncomputable section

namespace Cert.KernelIdeal.Stage

open Idealize.ShloMosaic Idealize.ShloMosaic.TcCoe Cert.KernelIdeal Cert.KernelIdeal.Gen Hedgehog

section block
variable (x : Vec Ideal S1x1x160x256 .bf16) (X : Fin 256 → Fin 160 → EReal) (hx : ∀ t d, x (ix4 0 0 d t) = X t d) (hX : ∀ t, Scalable (amax (X t)))
include hx hX

theorem scale_at (t : Fin 256) : scK (biasK (amaxK x)) (ix2 0 t) = scaleR (X t) := by
  rw [scK_at, biasK_at, amaxK_at]
  simp only [hx]
  exact scaleK_eq (hX t)

theorem inv_at (t : Fin 256) : ivK (biasK (amaxK x)) (ix2 0 t) = Ideal.exp2 (0 - expR (amax (X t))) := by
  rw [ivK_at, biasK_at, amaxK_at]
  simp only [hx]
  exact invK_eq (hX t)

theorem code_at (d : Fin 160) (t : Fin 256) : codesK x (ivK (biasK (amaxK x))) (ix2 d t) = codeR (X t) d := by
  rw [codesK_at, inv_at x X hx hX, hx]; rfl

theorem codeOf_at (d : Fin 160) (t : Fin 256) : codeOf x (ix4 0 0 d t) = codeR (X t) d := by
  unfold codeOf; rw [qcK_at, code_at x X hx hX]

theorem scaleOf_at (t : Fin 256) : scaleOf x (ix3 0 0 t) = scaleR (X t) := by
  unfold scaleOf; rw [qsK_at, scale_at x X hx hX]

theorem feat_at (w : Vec Ideal S1x48x160 .fp8e4m3) (ws b : Vec Ideal S1x48 .f32) :
    Lanes (feat x w ws b) fun t => phi (X t) (fun d f => w (ix3 0 f d)) (fun f => ws (ix2 0 f)) fun f => b (ix2 0 f) := by
  intro f t
  have hw : ∀ f d, shapeCast S48x160 w shapeCasts_S1x48x160_S48x160 (ix2 f d) = w (ix3 0 f d) := by intro f d; pointwise
  have hL : ∀ g, logitK (shapeCast S48x160 w shapeCasts_S1x48x160_S48x160) (codesK x (ivK (biasK (amaxK x)))) (scK (biasK (amaxK x))) (colK ws) (colK b) (ix2 g t)
      = logits (X t) (fun d f => w (ix3 0 f d)) (fun f => ws (ix2 0 f)) (fun f => b (ix2 0 f)) g * c2 := by
    intro g
    rw [logitK_at, colK_at, colK_at, scale_at x X hx hX, ← mul_assoc, add_mul_c2]
    simp only [hw, code_at x X hx hX]
    rfl
  unfold feat
  rw [featK_at]
  split
  · rename_i h
    rw [← phi_eq]
    unfold phiL
    by_cases h1 : f.val < 48
    · rw [dif_pos h1, dif_pos h1, posK_at _ _ t hL]
    · rw [dif_neg h1, dif_neg h1, negK_at _ _ t hL]
  · rfl

end block

section arrays
variable (m : (ℓ : Loc nD τ sig) → Buf (Elt Ideal) ℓ) (c : Dev nD)

/-- The features of the queries and of the keys. -/
abbrev PQ (b : Fin 8) (h : Fin 18) (t : Fin 256) (f : Fin 96) : ℝ := Phi (a0 m c) (a3 m c) (a4 m c) (a7 m c) b h t f
abbrev PK (b : Fin 8) (h : Fin 18) (t : Fin 256) (f : Fin 96) : ℝ := Phi (a1 m c) (a5 m c) (a6 m c) (a8 m c) b h t f

variable (hq : ∀ b h t, Scalable (amax fun d : Fin 160 => a0 m c (ix4 b t h d)))
  (hk : ∀ b h t, Scalable (amax fun d : Fin 160 => a1 m c (ix4 b t h d)))
  (V : Fin 8 → Fin 256 → Fin 18 → Fin 160 → ℝ) (hv : ∀ b t h d, a2 m c (ix4 b t h d) = (V b t h d : EReal))
  (T : Fin 8 → Fin 18 → Fin 96 → Fin 160 → ℝ) (ht : ∀ b h f d, a9 m c (ix4 b h f d) = (T b h f d : EReal))
  (Z : Fin 8 → Fin 18 → Fin 96 → ℝ) (hz : ∀ b h f, a10 m c (ix3 b h f) = (Z b h f : EReal))

include hq in
theorem lanesQ (b : Fin 8) (h : Fin 18) : Lanes (feat (argB (a0 m c) b h) (argW (a3 m c) h) (argH (a4 m c) h) (argH (a7 m c) h)) (PQ m c b h) :=
  feat_at (argB (a0 m c) b h) (fun t d => a0 m c (ix4 b t h d)) (fun _ _ => rfl) (hq b h) _ _ _

include hk in
theorem lanesK (b : Fin 8) (h : Fin 18) : Lanes (feat (argB (a1 m c) b h) (argW (a5 m c) h) (argH (a6 m c) h) (argH (a8 m c) h)) (PK m c b h) :=
  feat_at (argB (a1 m c) b h) (fun t d => a1 m c (ix4 b t h d)) (fun _ _ => rfl) (hk b h) _ _ _

include hq hk hv ht hz in
theorem y_at (b : Fin 8) (h : Fin 18) (d : Fin 160) (t : Fin 256) : (dats m 0 c).arrAt 11 cfg0.N (ix4 b h d t : S8x18x160x256.Idx)
    = ((numS (PK m c b h) (PQ m c b h) (fun j => V b j h d) (fun f => T b h f d) t : ℝ) : EReal)
      * Ideal.div 1 ((denS (PK m c b h) (PQ m c b h) (Z b h) t : ℝ) : EReal) := by
  rw [arr11]
  unfold yOf
  rw [outK_at,
    num_at (V := fun j d => V b j h d) (T := fun d f => T b h f d) (lanesK m c hk b h) (lanesQ m c hq b h) (fun d j => hv b j h d) (fun d f => ht b h f d),
    den_at (Z := Z b h) (lanesK m c hk b h) (lanesQ m c hq b h) (fun f => hz b h f)]
  rfl

include hk hv ht in
theorem sf_at (b : Fin 8) (h : Fin 18) (d : Fin 160) (f : Fin 96) : (dats m 0 c).arrAt 12 cfg0.N (ix4 b h d f : S8x18x160x96.Idx)
    = ((T b h f d + ∑ j, PK m c b h j f * V b j h d : ℝ) : EReal) := by
  rw [arr12, sfK_at, ds_at (V := fun j d => V b j h d) (lanesK m c hk b h) (fun d j => hv b j h d), EReal.coe_add]
  exact congrArg (· + _) (ht b h f d)

include hk hz in
theorem zf_at (b : Fin 8) (h : Fin 18) (f : Fin 96) : (dats m 0 c).arrAt 13 cfg0.N (ix3 h b f : S18x8x96.Idx)
    = ((Z b h f + ∑ j, PK m c b h j f : ℝ) : EReal) := by
  rw [arr13, zfK_at, dz_at (lanesK m c hk b h), EReal.coe_add]
  exact congrArg (· + _) (hz b h f)

include hq in
theorem qc_at (b : Fin 8) (h : Fin 18) (d : Fin 160) (t : Fin 256) : (dats m 0 c).arrAt 14 cfg0.N (ix4 b h d t : S8x18x160x256.Idx)
    = codeR (fun d => a0 m c (ix4 b t h d)) d := by
  rw [arr14, codeOf_at (argB (a0 m c) b h) (fun t d => a0 m c (ix4 b t h d)) (fun _ _ => rfl) (hq b h)]

include hq in
theorem qs_at (b : Fin 8) (h : Fin 18) (t : Fin 256) : (dats m 0 c).arrAt 15 cfg0.N (ix3 h b t : S18x8x256.Idx)
    = scaleR (fun d => a0 m c (ix4 b t h d)) := by
  rw [arr15, scaleOf_at (argB (a0 m c) b h) (fun t d => a0 m c (ix4 b t h d)) (fun _ _ => rfl) (hq b h)]

include hk in
theorem kc_at (b : Fin 8) (h : Fin 18) (d : Fin 160) (t : Fin 256) : (dats m 0 c).arrAt 16 cfg0.N (ix4 b h d t : S8x18x160x256.Idx)
    = codeR (fun d => a1 m c (ix4 b t h d)) d := by
  rw [arr16, codeOf_at (argB (a1 m c) b h) (fun t d => a1 m c (ix4 b t h d)) (fun _ _ => rfl) (hk b h)]

include hk in
theorem ks_at (b : Fin 8) (h : Fin 18) (t : Fin 256) : (dats m 0 c).arrAt 17 cfg0.N (ix3 h b t : S18x8x256.Idx)
    = scaleR (fun d => a1 m c (ix4 b t h d)) := by
  rw [arr17, scaleOf_at (argB (a1 m c) b h) (fun t d => a1 m c (ix4 b t h d)) (fun _ _ => rfl) (hk b h)]

end arrays

end Cert.KernelIdeal.Stage
-- ==== Proof.Attn.lean ====
/- Causal linear attention over the reals: the sum over all earlier tokens is the sum over the chunk and the state before it. -/
module

public import Mathlib.Data.Real.Basic
public import Mathlib.Algebra.BigOperators.Fin
public import Mathlib.Algebra.BigOperators.Ring.Finset
public import Mathlib.Tactic.Ring
public import Mathlib.Logic.Equiv.Fin.Basic

@[expose] public section

noncomputable section

namespace Hedgehog

/-- Token `j` of chunk `c`. -/
def tok (c : Fin 4) (j : Fin 64) : Fin 256 := ⟨64 * c.val + j.val, by omega⟩

theorem chunk_sum (g : Fin 256 → ℝ) : ∑ j, g j = ∑ c : Fin 4, ∑ j : Fin 64, g (tok c j) := by
  rw [← Fintype.sum_prod_type' (f := fun c j => g (tok c j))]
  refine (Fintype.sum_equiv (finProdFinEquiv (m := 4) (n := 64)) _ _ ?_).symm
  rintro ⟨c, j⟩
  congr 1
  apply Fin.ext
  simp [tok, finProdFinEquiv, Nat.add_comm]

/-- The sum over the chunks before chunk `c`. -/
def before (c : Fin 4) (D : Fin 4 → ℝ) : ℝ := ∑ c', if c' < c then D c' else 0

theorem causal_split (c : Fin 4) (i : Fin 64) (h : Fin 256 → ℝ) :
    (∑ j : Fin 256, if j.val ≤ (tok c i).val then h j else 0)
      = (∑ j : Fin 64, if j.val ≤ i.val then h (tok c j) else 0) + before c fun c' => ∑ j, h (tok c' j) := by
  have hi := i.isLt
  have e : ∀ c' : Fin 4, (∑ j : Fin 64, if (tok c' j).val ≤ (tok c i).val then h (tok c' j) else 0)
      = (if c' = c then ∑ j : Fin 64, (if j.val ≤ i.val then h (tok c j) else 0) else 0)
        + (if c' < c then ∑ j, h (tok c' j) else 0) := by
    intro c'
    rcases lt_trichotomy c' c with hc | hc | hc
    · rw [if_neg hc.ne, if_pos hc, zero_add]
      refine Finset.sum_congr rfl fun j _ => if_pos ?_
      have := j.isLt; have : c'.val < c.val := hc
      simp only [tok]; omega
    · subst hc
      rw [if_pos rfl, if_neg (lt_irrefl _), add_zero]
      refine Finset.sum_congr rfl fun j _ => ?_
      simp only [tok, add_le_add_iff_left]
    · rw [if_neg hc.ne', if_neg hc.not_gt, zero_add]
      refine Finset.sum_eq_zero fun j _ => if_neg ?_
      have := j.isLt; have : c.val < c'.val := hc
      simp only [tok]; omega
  rw [chunk_sum fun j => if j.val ≤ (tok c i).val then h j else 0]
  simp only [e, Finset.sum_add_distrib, before]
  simp

theorem before_mul (c : Fin 4) (D : Fin 4 → ℝ) (x : ℝ) : x * before c D = before c fun c' => x * D c' := by
  simp only [before, Finset.mul_sum, mul_ite, mul_zero]

theorem before_sum {n : Nat} (c : Fin 4) (D : Fin 4 → Fin n → ℝ) :
    (∑ f, before c fun c' => D c' f) = before c fun c' => ∑ f, D c' f := by
  simp only [before]
  rw [Finset.sum_comm]
  refine Finset.sum_congr rfl fun c' _ => ?_
  split <;> simp

/-- The state's part: the state given and what the earlier chunks add to it. -/
theorem inter_eq (c : Fin 4) (K : Fin 256 → Fin 96 → ℝ) (Q : Fin 96 → ℝ) (W : Fin 256 → ℝ) (s : Fin 96 → ℝ) :
    (∑ f, Q f * (s f + before c fun c' => ∑ j, K (tok c' j) f * W (tok c' j)))
      = (∑ f, s f * Q f) + before c fun c' => ∑ j, (∑ f, K (tok c' j) f * Q f) * W (tok c' j) := by
  simp only [mul_add, Finset.sum_add_distrib, before_mul, before_sum]
  congr 1
  · exact Finset.sum_congr rfl fun f _ => mul_comm _ _
  · congr 1; funext c'
    simp only [Finset.mul_sum, Finset.sum_mul]
    rw [Finset.sum_comm]
    refine Finset.sum_congr rfl fun j _ => Finset.sum_congr rfl fun f _ => by ring

/-- The numerator over all earlier tokens is the chunked one. -/
theorem attn_eq (c : Fin 4) (i : Fin 64) (K : Fin 256 → Fin 96 → ℝ) (Q : Fin 96 → ℝ) (W : Fin 256 → ℝ) (s : Fin 96 → ℝ) :
    (∑ j : Fin 256, (if j.val ≤ (tok c i).val then ∑ f, K j f * Q f else 0) * W j) + ∑ f, s f * Q f
      = (∑ j : Fin 64, (if j.val ≤ i.val then ∑ f, K (tok c j) f * Q f else 0) * W (tok c j))
        + ∑ f, Q f * (s f + before c fun c' => ∑ j, K (tok c' j) f * W (tok c' j)) := by
  rw [inter_eq]
  have := causal_split c i fun j => (∑ f, K j f * Q f) * W j
  simp only [ite_mul, zero_mul]
  rw [this]; ring

end Hedgehog
-- ==== Proof.RefA.lean ====
/- The reference's features, read at an index. -/
module

public import proofs.«01_k».proof.Proof.Spec
public import proofs.«01_k».proof.Proof.Attn
public import proofs.«01_k».proof.Proof.Gen.ReferenceIdeal.Read

@[expose] public section

set_option maxRecDepth 16384

noncomputable section

namespace Cert.ReferenceIdeal.Stage

open Idealize.ShloMosaic Idealize.ShloMosaic.TcCoe Cert.ReferenceIdeal Cert.ReferenceIdeal.Read Hedgehog

variable (x4 x7 : FVec Ideal S18x48 .f32) (r1 : FVec Ideal S8x256x18 .f32) (r4 : FVec Ideal S8x256x18x160 .bf16) (r6 : FVec Ideal S18x160x48 .bf16)

/-- The logits of a token. -/
def lg (b : Fin 8) (t : Fin 256) (h : Fin 18) (f : Fin 48) : EReal :=
  (∑ d : Fin 160, r6 (ix3 h d f) * r4 (ix4 b t h d)) * r1 (ix3 b t h) * x4 (ix2 h f) + x7 (ix2 h f)

theorem v1_at (h : Fin 18) (f : Fin 48) (b : Fin 8) (t : Fin 256) :
    val_main_v1 (F := Ideal) r4 r6 (ix4 h f b t) = ∑ d : Fin 160, r6 (ix3 h d f) * r4 (ix4 b t h d) := by
  pointwise [val_main_v1]

theorem v11_at (b : Fin 8) (t : Fin 256) (h : Fin 18) (f : Fin 48) :
    val_main_v11 (F := Ideal) x4 x7 r1 r4 r6 (ix4 b t h f) = lg x4 x7 r1 r4 r6 b t h f := by
  pointwise [val_main_v11, val_main_v10, val_main_v9, val_main_v8, val_main_v7, val_main_v6, val_main_v5, val_main_v4, val_main_v3, val_main_v2]
  rw [v1_at]; rfl

theorem v22_at (b : Fin 8) (t : Fin 256) (h : Fin 18) (f : Fin 48) :
    val_main_v22 (F := Ideal) x4 x7 r1 r4 r6 (ix4 b t h f) = soft (lg x4 x7 r1 r4 r6 b t h) f := by
  pointwise [val_main_v22, val_main_v21, val_main_v20, val_main_v19, val_main_v18, val_main_v17, val_main_v16, val_main_v15, val_main_v14, val_main_v13, val_main_v12, val_main_cst, val_main_cst_0, val_main_cst_1]
  simp only [v11_at]
  rw [ofBits_ninf]; rfl

theorem v34_at (b : Fin 8) (t : Fin 256) (h : Fin 18) (f : Fin 48) :
    val_main_v34 (F := Ideal) x4 x7 r1 r4 r6 (ix4 b t h f) = soft (fun g => -lg x4 x7 r1 r4 r6 b t h g) f := by
  pointwise [val_main_v34, val_main_v33, val_main_v32, val_main_v31, val_main_v30, val_main_v29, val_main_v28, val_main_v27, val_main_v26, val_main_v25, val_main_v24, val_main_v23, val_main_cst_2, val_main_cst_3, val_main_cst_4]
  simp only [v11_at]
  rw [ofBits_ninf]; rfl

theorem v36_at (b : Fin 8) (t : Fin 256) (h : Fin 18) (f : Fin 96) :
    val_main_v36 (F := Ideal) x4 x7 r1 r4 r6 (ix4 b t h f) = phiL (lg x4 x7 r1 r4 r6 b t h) f := by
  pointwise [val_main_v36, val_main_v35]
  simp only [v22_at, v34_at]
  rfl

/-- The keys' features are the queries' function of their own arguments. -/
theorem v72_eq : val_main_v72 (F := Ideal) x4 x7 r1 r4 r6 = val_main_v36 (F := Ideal) x4 x7 r1 r4 r6 := rfl

theorem tok_eq (c : Fin 4) (i : Fin 64) (hp : c.val * 64 + i.val < 256) : (⟨c.val * 64 + i.val, hp⟩ : Fin 256) = tok c i := by
  apply Fin.ext; simp only [tok]; omega

theorem v73_at (b : Fin 8) (c : Fin 4) (i : Fin 64) (h : Fin 18) (f : Fin 96) :
    val_main_v73 (F := Ideal) x4 x7 r1 r4 r6 (ix5 b c i h f) = val_main_v36 (F := Ideal) x4 x7 r1 r4 r6 (ix4 b (tok c i) h f) := by
  pointwise [val_main_v73]
  rw [tok_eq]

theorem v74_at (b : Fin 8) (c : Fin 4) (i : Fin 64) (h : Fin 18) (f : Fin 96) :
    val_main_v74 (F := Ideal) x4 x7 r1 r4 r6 (ix5 b c i h f) = val_main_v36 (F := Ideal) x4 x7 r1 r4 r6 (ix4 b (tok c i) h f) := by
  pointwise [val_main_v74]
  rw [v72_eq, tok_eq]

theorem v75_at (x2 : FVec Ideal S8x256x18x160 .bf16) (b : Fin 8) (c : Fin 4) (i : Fin 64) (h : Fin 18) (f : Fin 160) :
    val_main_v75 (F := Ideal) x2 (ix5 b c i h f) = x2 (ix4 b (tok c i) h f) := by
  pointwise [val_main_v75]
  rw [tok_eq]

end Cert.ReferenceIdeal.Stage
-- ==== Proof.RefWin.lean ====
/- A running sum over the four chunks, read at an index: `reduce_window` with a window of four, padded by three below. -/
module

public import proofs.«01_k».proof.Proof.Attn
public import proofs.«01_k».proof.Proof.Gen.ReferenceIdeal.Read

@[expose] public section

noncomputable section

open Idealize Idealize.ShloMosaic Idealize.ShloMosaic.ValueIdx
open Cert.ReferenceIdeal

namespace Hedgehog

/-- A left fold whose every step adds a real number adds the sum of them. -/
theorem foldl_real {ι : Type} (F : EReal → ι → EReal) (G : ι → ℝ) (hF : ∀ (r : ℝ) n, F r n = ((r + G n : ℝ) : EReal)) (l : List ι) :
    ∀ r : ℝ, l.foldl F (r : EReal) = ((r + (l.map G).sum : ℝ) : EReal) := by
  induction l with
  | nil => intro r; simp
  | cons n l ih => intro r; rw [List.foldl_cons, hF, ih]; simp [add_assoc]

/-- The sum over the chunks up to and including chunk `c`. -/
def upto (c : Fin 4) (D : Fin 4 → ℝ) : ℝ := before c D + D c

theorem window_sum (c : Fin 4) (D : Fin 4 → ℝ) :
    ((List.finRange 4).map fun n : Fin 4 => if h : 3 ≤ c.val + n.val then D ⟨c.val + n.val - 3, by omega⟩ else 0).sum = upto c D := by
  unfold upto before
  fin_cases c <;> simp [List.finRange_succ, Fin.sum_univ_four, add_assoc] <;> rfl

abbrev W5 : Shape := ⟨5, ![1, 4, 1, 1, 1]⟩
abbrev W4 : Shape := ⟨4, ![1, 4, 1, 1]⟩

theorem w5 : ∀ (n : Fin 4) (a : Fin 5), (W5.rowMajor.symm (n.cast (by decide)) a).val = if a = 1 then n.val else 0 := by decide +kernel
theorem w4 : ∀ (n : Fin 4) (a : Fin 4), (W4.rowMajor.symm (n.cast (by decide)) a).val = if a = 1 then n.val else 0 := by decide +kernel

/-- The running sum of an array whose entries along the chunks are `D`. -/
theorem cumsum5 (x : FVec Ideal S8x4x18x96x160 .f32) (init : FVec Ideal S_ .f32) (hr : S8x4x18x96x160.ReduceWindows ![1, 4, 1, 1, 1] ![1, 1, 1, 1, 1] ![0, 3, 0, 0, 0] ![0, 0, 0, 0, 0] S8x4x18x96x160)
    (hu : 0 < S_.numel) (hinit : init (Shape.Idx.first hu) = 0) (b : Fin 8) (h : Fin 18) (f : Fin 96) (d : Fin 160)
    (D : Fin 4 → ℝ) (hx : ∀ c, x (ix5 b c h f d) = (D c : EReal)) (c : Fin 4) :
    Host.reduceWindowAdd (F := Ideal) ![1, 4, 1, 1, 1] ![1, 1, 1, 1, 1] ![0, 3, 0, 0, 0] ![0, 0, 0, 0, 0] x init hr hu (ix5 b c h f d) = (upto c D : EReal) := by
  show Host.reduceWindow (· + ·) ![1, 4, 1, 1, 1] ![1, 1, 1, 1, 1] ![0, 3, 0, 0, 0] ![0, 0, 0, 0, 0] x (fun _ : (⟨0, ![]⟩ : Shape).Idx => init (Shape.Idx.first hu)) hr (by decide) (ix5 b c h f d) = _
  rw [hinit]
  unfold Host.reduceWindow
  rw [← window_sum]
  refine (foldl_real _ (fun n : Fin W5.numel => if h : 3 ≤ c.val + n.val then D ⟨c.val + n.val - 3, by have : n.val < 4 := n.isLt; omega⟩ else 0) ?_ _ 0).trans ?_
  · intro r n
    have hn : n.val < 4 := n.isLt
    have hc := c.isLt
    have hw : ∀ a : Fin 5, (W5.rowMajor.symm n a).val = if a = 1 then n.val else 0 := w5 (n.cast (by decide))
    dsimp only
    rw [EReal.coe_add]
    congr 1
    split
    · next hin =>
      have h1 := hin 1
      change 3 ≤ c.val * 1 + (W5.rowMajor.symm n 1).val ∧ _ at h1
      rw [hw 1] at h1
      have h3 : 3 ≤ c.val + n.val := by simpa using h1.1
      rw [dif_pos h3, ← hx]
      refine congrArg x (funext fun a => Fin.ext ?_)
      match a with
      | ⟨0, _⟩ =>
        show (b).val * 1 + (W5.rowMajor.symm n 0).val - 0 = _
        rw [hw 0]; simp
      | ⟨1, _⟩ =>
        show (c).val * 1 + (W5.rowMajor.symm n 1).val - 3 = _
        rw [hw 1]; simp
      | ⟨2, _⟩ =>
        show (h).val * 1 + (W5.rowMajor.symm n 2).val - 0 = _
        rw [hw 2]; simp
      | ⟨3, _⟩ =>
        show (f).val * 1 + (W5.rowMajor.symm n 3).val - 0 = _
        rw [hw 3]; simp
      | ⟨4, _⟩ =>
        show (d).val * 1 + (W5.rowMajor.symm n 4).val - 0 = _
        rw [hw 4]; simp
    · next hin =>
      rw [dif_neg fun hle => hin fun a => ?_]
      · rfl
      match a with
      | ⟨0, _⟩ =>
        show 0 ≤ (b).val * 1 + (W5.rowMajor.symm n 0).val ∧ (b).val * 1 + (W5.rowMajor.symm n 0).val - 0 < _
        rw [hw 0]; simp
      | ⟨1, _⟩ =>
        show 3 ≤ (c).val * 1 + (W5.rowMajor.symm n 1).val ∧ (c).val * 1 + (W5.rowMajor.symm n 1).val - 3 < _
        rw [hw 1]; simp; omega
      | ⟨2, _⟩ =>
        show 0 ≤ (h).val * 1 + (W5.rowMajor.symm n 2).val ∧ (h).val * 1 + (W5.rowMajor.symm n 2).val - 0 < _
        rw [hw 2]; simp
      | ⟨3, _⟩ =>
        show 0 ≤ (f).val * 1 + (W5.rowMajor.symm n 3).val ∧ (f).val * 1 + (W5.rowMajor.symm n 3).val - 0 < _
        rw [hw 3]; simp
      | ⟨4, _⟩ =>
        show 0 ≤ (d).val * 1 + (W5.rowMajor.symm n 4).val ∧ (d).val * 1 + (W5.rowMajor.symm n 4).val - 0 < _
        rw [hw 4]; simp
  · rw [zero_add]; rfl

/-- The running sum of an array whose entries along the chunks are `D`. -/
theorem cumsum4 (x : FVec Ideal S8x4x18x96 .f32) (init : FVec Ideal S_ .f32) (hr : S8x4x18x96.ReduceWindows ![1, 4, 1, 1] ![1, 1, 1, 1] ![0, 3, 0, 0] ![0, 0, 0, 0] S8x4x18x96)
    (hu : 0 < S_.numel) (hinit : init (Shape.Idx.first hu) = 0) (b : Fin 8) (h : Fin 18) (f : Fin 96)
    (D : Fin 4 → ℝ) (hx : ∀ c, x (ix4 b c h f) = (D c : EReal)) (c : Fin 4) :
    Host.reduceWindowAdd (F := Ideal) ![1, 4, 1, 1] ![1, 1, 1, 1] ![0, 3, 0, 0] ![0, 0, 0, 0] x init hr hu (ix4 b c h f) = (upto c D : EReal) := by
  show Host.reduceWindow (· + ·) ![1, 4, 1, 1] ![1, 1, 1, 1] ![0, 3, 0, 0] ![0, 0, 0, 0] x (fun _ : (⟨0, ![]⟩ : Shape).Idx => init (Shape.Idx.first hu)) hr (by decide) (ix4 b c h f) = _
  rw [hinit]
  unfold Host.reduceWindow
  rw [← window_sum]
  refine (foldl_real _ (fun n : Fin W4.numel => if h : 3 ≤ c.val + n.val then D ⟨c.val + n.val - 3, by have : n.val < 4 := n.isLt; omega⟩ else 0) ?_ _ 0).trans ?_
  · intro r n
    have hn : n.val < 4 := n.isLt
    have hc := c.isLt
    have hw : ∀ a : Fin 4, (W4.rowMajor.symm n a).val = if a = 1 then n.val else 0 := w4 (n.cast (by decide))
    dsimp only
    rw [EReal.coe_add]
    congr 1
    split
    · next hin =>
      have h1 := hin 1
      change 3 ≤ c.val * 1 + (W4.rowMajor.symm n 1).val ∧ _ at h1
      rw [hw 1] at h1
      have h3 : 3 ≤ c.val + n.val := by simpa using h1.1
      rw [dif_pos h3, ← hx]
      refine congrArg x (funext fun a => Fin.ext ?_)
      match a with
      | ⟨0, _⟩ =>
        show (b).val * 1 + (W4.rowMajor.symm n 0).val - 0 = _
        rw [hw 0]; simp
      | ⟨1, _⟩ =>
        show (c).val * 1 + (W4.rowMajor.symm n 1).val - 3 = _
        rw [hw 1]; simp
      | ⟨2, _⟩ =>
        show (h).val * 1 + (W4.rowMajor.symm n 2).val - 0 = _
        rw [hw 2]; simp
      | ⟨3, _⟩ =>
        show (f).val * 1 + (W4.rowMajor.symm n 3).val - 0 = _
        rw [hw 3]; simp
    · next hin =>
      rw [dif_neg fun hle => hin fun a => ?_]
      · rfl
      match a with
      | ⟨0, _⟩ =>
        show 0 ≤ (b).val * 1 + (W4.rowMajor.symm n 0).val ∧ (b).val * 1 + (W4.rowMajor.symm n 0).val - 0 < _
        rw [hw 0]; simp
      | ⟨1, _⟩ =>
        show 3 ≤ (c).val * 1 + (W4.rowMajor.symm n 1).val ∧ (c).val * 1 + (W4.rowMajor.symm n 1).val - 3 < _
        rw [hw 1]; simp; omega
      | ⟨2, _⟩ =>
        show 0 ≤ (h).val * 1 + (W4.rowMajor.symm n 2).val ∧ (h).val * 1 + (W4.rowMajor.symm n 2).val - 0 < _
        rw [hw 2]; simp
      | ⟨3, _⟩ =>
        show 0 ≤ (f).val * 1 + (W4.rowMajor.symm n 3).val ∧ (f).val * 1 + (W4.rowMajor.symm n 3).val - 0 < _
        rw [hw 3]; simp
  · rw [zero_add]; rfl

end Hedgehog
-- ==== Proof.RefB.lean ====
/- The reference's chunked attention, read at an index, over real features. -/
module

public import proofs.«01_k».proof.Proof.RefA
public import proofs.«01_k».proof.Proof.RefWin

@[expose] public section

set_option maxRecDepth 16384

noncomputable section

namespace Cert.ReferenceIdeal.Stage

open Idealize.ShloMosaic Idealize.ShloMosaic.TcCoe Cert.ReferenceIdeal Cert.ReferenceIdeal.Read Hedgehog

variable (x2 : FVec Ideal S8x256x18x160 .bf16) (x4 x6 x7 x8 : FVec Ideal S18x48 .f32) (x9 : FVec Ideal S8x18x96x160 .f32) (x10 : FVec Ideal S8x18x96 .f32)
  (r1 r3 : FVec Ideal S8x256x18 .f32) (r4 r5 : FVec Ideal S8x256x18x160 .bf16) (r6 r7 : FVec Ideal S18x160x48 .bf16)
  (Q K : Fin 8 → Fin 18 → Fin 256 → Fin 96 → ℝ)
  (hQ : ∀ b t h f, val_main_v36 (F := Ideal) x4 x7 r1 r4 r6 (ix4 b t h f) = (Q b h t f : EReal))
  (hK : ∀ b t h f, val_main_v36 (F := Ideal) x6 x8 r3 r5 r7 (ix4 b t h f) = (K b h t f : EReal))
  (V : Fin 8 → Fin 256 → Fin 18 → Fin 160 → ℝ) (hV : ∀ b t h d, x2 (ix4 b t h d) = (V b t h d : EReal))
  (T : Fin 8 → Fin 18 → Fin 96 → Fin 160 → ℝ) (hT : ∀ b h f d, x9 (ix4 b h f d) = (T b h f d : EReal))
  (Z : Fin 8 → Fin 18 → Fin 96 → ℝ) (hZ : ∀ b h f, x10 (ix3 b h f) = (Z b h f : EReal))

/-- The causal mask of a chunk. -/
theorem mask_at (i j : Fin 64) : val_main_v77 (F := Ideal) (ix2 i j) = if j.val ≤ i.val then 1#1 else 0#1 := by
  pointwise [val_main_v77, val_main_v76, val_main_call0_v4, val_main_call0_v5, val_main_call0_v3, val_main_call0_v2, val_main_call0_v1, val_main_call0_v0, val_main_call0_c, val_main_call0_c_0, val_main_c]
  have hi := i.isLt
  have hj := j.isLt
  have e : (BitVec.sle (BitVec.ofNat 32 j.val) (BitVec.ofNat 32 i.val) = true) ↔ j.val ≤ i.val := by
    rw [BitVec.sle_iff_toInt_le, BitVec.toInt_ofNat', BitVec.toInt_ofNat']
    simp only [Int.bmod]
    omega
  simp only [IntOp.cmpi, IntOp.addi, BitVec.add_zero]
  split <;> simp_all [Scalar.select]

include hQ hK in
theorem v78_at (b : Fin 8) (c : Fin 4) (h : Fin 18) (i j : Fin 64) :
    val_main_v78 (F := Ideal) x4 x6 x7 x8 r1 r3 r4 r5 r6 r7 (ix5 b c h i j) = ((∑ f, K b h (tok c j) f * Q b h (tok c i) f : ℝ) : EReal) := by
  pointwise [val_main_v78]
  simp only [v73_at, v74_at, hQ, hK, ← EReal.coe_mul]
  rw [← coe_sum]
  exact congrArg Real.toEReal (Finset.sum_congr rfl fun f _ => mul_comm _ _)

/-- The weight of token `j` for token `i` of its chunk. -/
def wt (b : Fin 8) (c : Fin 4) (h : Fin 18) (i j : Fin 64) : ℝ := if j.val ≤ i.val then ∑ f, K b h (tok c j) f * Q b h (tok c i) f else 0

include hQ hK in
theorem v79_at (b : Fin 8) (c : Fin 4) (h : Fin 18) (i j : Fin 64) :
    val_main_v79 (F := Ideal) x4 x6 x7 x8 r1 r3 r4 r5 r6 r7 (ix5 b c h i j) = (wt Q K b c h i j : EReal) := by
  pointwise [val_main_v79, val_main_call1_v1, val_main_call1_v2, val_main_call1_v0, val_main_cst_11]
  simp only [mask_at, v78_at x4 x6 x7 x8 r1 r3 r4 r5 r6 r7 Q K hQ hK, wt]
  split
  · simp [Scalar.select]
  · simp [Scalar.select]; exact Ideal.ofBits_zero_f32

include hQ hK hV in
theorem v82_at (b : Fin 8) (c : Fin 4) (i : Fin 64) (h : Fin 18) (d : Fin 160) :
    val_main_v82 (F := Ideal) x2 x4 x6 x7 x8 r1 r3 r4 r5 r6 r7 (ix5 b c i h d) = ((∑ j, wt Q K b c h i j * V b (tok c j) h d : ℝ) : EReal) := by
  pointwise [val_main_v82, val_main_v81, val_main_v80]
  simp only [v75_at, v79_at x4 x6 x7 x8 r1 r3 r4 r5 r6 r7 Q K hQ hK, hV, ← EReal.coe_mul]
  rw [← coe_sum]
  exact congrArg Real.toEReal (Finset.sum_congr rfl fun j _ => mul_comm _ _)

include hQ hK in
theorem v84_at (b : Fin 8) (c : Fin 4) (i : Fin 64) (h : Fin 18) :
    val_main_v84 (F := Ideal) x4 x6 x7 x8 r1 r3 r4 r5 r6 r7 (ix4 b c i h) = ((∑ j, wt Q K b c h i j : ℝ) : EReal) := by
  pointwise [val_main_v84, val_main_v83, val_main_cst_12]
  simp only [v79_at x4 x6 x7 x8 r1 r3 r4 r5 r6 r7 Q K hQ hK]
  rw [← coe_sum]

include hK hV in
theorem v85_at (b : Fin 8) (c : Fin 4) (h : Fin 18) (f : Fin 96) (d : Fin 160) :
    val_main_v85 (F := Ideal) x2 x6 x8 r3 r5 r7 (ix5 b c h f d) = ((∑ j, K b h (tok c j) f * V b (tok c j) h d : ℝ) : EReal) := by
  pointwise [val_main_v85]
  simp only [v74_at, v75_at, hK, hV, ← EReal.coe_mul]
  rw [← coe_sum]

include hK in
theorem v87_at (b : Fin 8) (c : Fin 4) (h : Fin 18) (f : Fin 96) :
    val_main_v87 (F := Ideal) x6 x8 r3 r5 r7 (ix4 b c h f) = ((∑ j, K b h (tok c j) f : ℝ) : EReal) := by
  pointwise [val_main_v87, val_main_v86, val_main_cst_13]
  simp only [v74_at, hK]
  rw [← coe_sum]

include hK hV in
theorem v88_at (b : Fin 8) (c : Fin 4) (h : Fin 18) (f : Fin 96) (d : Fin 160) :
    val_main_v88 (F := Ideal) x2 x6 x8 r3 r5 r7 (ix5 b c h f d) = (upto c (fun c' => ∑ j, K b h (tok c' j) f * V b (tok c' j) h d) : EReal) := by
  unfold val_main_v88
  refine cumsum5 _ _ _ _ ?_ b h f d _ (fun c' => v85_at x2 x6 x8 r3 r5 r7 K hK V hV b c' h f d) c
  pointwise [val_main_call2_v0, val_main_call2_cst]

include hK in
theorem v89_at (b : Fin 8) (c : Fin 4) (h : Fin 18) (f : Fin 96) :
    val_main_v89 (F := Ideal) x6 x8 r3 r5 r7 (ix4 b c h f) = (upto c (fun c' => ∑ j, K b h (tok c' j) f) : EReal) := by
  unfold val_main_v89
  refine cumsum4 _ _ _ _ ?_ b h f _ (fun c' => v87_at x6 x8 r3 r5 r7 K hK b c' h f) c
  pointwise [val_main_call3_v0, val_main_call3_cst]

theorem upto_sub (c : Fin 4) (D : Fin 4 → ℝ) : upto c D - D c = before c D := by unfold upto; ring

theorem upto_last (D : Fin 4 → ℝ) : upto 3 D = ∑ c, D c := by
  unfold upto before; rw [Fin.sum_univ_four, Fin.sum_univ_four]; simp

include hK hV hT in
theorem v93_at (b : Fin 8) (c : Fin 4) (h : Fin 18) (f : Fin 96) (d : Fin 160) :
    val_main_v93 (F := Ideal) x2 x6 x8 x9 r3 r5 r7 (ix5 b c h f d) = ((T b h f d + before c (fun c' => ∑ j, K b h (tok c' j) f * V b (tok c' j) h d) : ℝ) : EReal) := by
  pointwise [val_main_v93, val_main_v92, val_main_v90, val_main_v91]
  rw [v88_at x2 x6 x8 r3 r5 r7 K hK V hV, v85_at x2 x6 x8 r3 r5 r7 K hK V hV, hT, ← EReal.coe_sub, ← EReal.coe_add,
    upto_sub c fun c' => ∑ j, K b h (tok c' j) f * V b (tok c' j) h d]

include hK hZ in
theorem v97_at (b : Fin 8) (c : Fin 4) (h : Fin 18) (f : Fin 96) :
    val_main_v97 (F := Ideal) x6 x8 x10 r3 r5 r7 (ix4 b c h f) = ((Z b h f + before c (fun c' => ∑ j, K b h (tok c' j) f) : ℝ) : EReal) := by
  pointwise [val_main_v97, val_main_v96, val_main_v94, val_main_v95]
  rw [v89_at x6 x8 r3 r5 r7 K hK, v87_at x6 x8 r3 r5 r7 K hK, hZ, ← EReal.coe_sub, ← EReal.coe_add,
    upto_sub c fun c' => ∑ j, K b h (tok c' j) f]

include hQ hK hV hT in
theorem v103_at (b : Fin 8) (c : Fin 4) (i : Fin 64) (h : Fin 18) (d : Fin 160) :
    val_main_v103 (F := Ideal) x2 x4 x6 x7 x8 x9 r1 r3 r4 r5 r6 r7 (ix5 b c i h d) = (numS (K b h) (Q b h) (fun j => V b j h d) (fun f => T b h f d) (tok c i) : EReal) := by
  pointwise [val_main_v103, val_main_v100, val_main_v99, val_main_v98]
  simp only [v82_at x2 x4 x6 x7 x8 r1 r3 r4 r5 r6 r7 Q K hQ hK V hV, v93_at x2 x6 x8 x9 r3 r5 r7 K hK V hV T hT, v73_at, hQ, ← EReal.coe_mul]
  rw [← coe_sum, ← EReal.coe_add]
  refine congrArg Real.toEReal ?_
  unfold numS
  rw [attn_eq]
  exact congrArg₂ (· + ·) rfl (Finset.sum_congr rfl fun f _ => mul_comm _ _)

include hQ hK hZ in
theorem v104_at (b : Fin 8) (c : Fin 4) (i : Fin 64) (h : Fin 18) :
    val_main_v104 (F := Ideal) x4 x6 x7 x8 x10 r1 r3 r4 r5 r6 r7 (ix4 b c i h) = (denS (K b h) (Q b h) (Z b h) (tok c i) : EReal) := by
  pointwise [val_main_v104, val_main_v102, val_main_v101, val_main_v98]
  simp only [v84_at x4 x6 x7 x8 r1 r3 r4 r5 r6 r7 Q K hQ hK, v97_at x6 x8 x10 r3 r5 r7 K hK Z hZ, v73_at, hQ, ← EReal.coe_mul]
  rw [← coe_sum, ← EReal.coe_add]
  refine congrArg Real.toEReal ?_
  unfold denS
  have := attn_eq c i (K b h) (Q b h (tok c i)) (fun _ => 1) (Z b h)
  simp only [mul_one] at this
  rw [this]
  exact congrArg₂ (· + ·) rfl (Finset.sum_congr rfl fun f _ => mul_comm _ _)

theorem tok_div (t : Fin 256) : tok ⟨t.val / 64, by omega⟩ ⟨t.val % 64, by omega⟩ = t := by
  apply Fin.ext; simp only [tok]; omega

include hQ hK hV hT hZ in
theorem v118_at (b : Fin 8) (h : Fin 18) (d : Fin 160) (t : Fin 256) :
    val_main_v118 (F := Ideal) x2 x4 x6 x7 x8 x9 x10 r1 r3 r4 r5 r6 r7 (ix4 b h d t) = (numS (K b h) (Q b h) (fun j => V b j h d) (fun f => T b h f d) t : EReal)
      * Ideal.div 1 (denS (K b h) (Q b h) (Z b h) t : EReal) := by
  pointwise [val_main_v118, val_main_v111, val_main_v110, val_main_v109, val_main_v108, val_main_v107, val_main_v106, val_main_v105, val_main_cst_14]
  rw [v103_at x2 x4 x6 x7 x8 x9 r1 r3 r4 r5 r6 r7 Q K hQ hK V hV T hT, v104_at x4 x6 x7 x8 x10 r1 r3 r4 r5 r6 r7 Q K hQ hK Z hZ]
  rw [tok_div]

include hK hV hT in
theorem v119_at (b : Fin 8) (h : Fin 18) (d : Fin 160) (f : Fin 96) :
    val_main_v119 (F := Ideal) x2 x6 x8 x9 r3 r5 r7 (ix4 b h d f) = ((T b h f d + ∑ j, K b h j f * V b j h d : ℝ) : EReal) := by
  pointwise [val_main_v119, val_main_v114, val_main_v113, val_main_v112]
  rw [v88_at x2 x6 x8 r3 r5 r7 K hK V hV, hT, ← EReal.coe_add, chunk_sum]
  exact congrArg (fun x : ℝ => ((T b h f d + x : ℝ) : EReal)) (upto_last _)

include hK hZ in
theorem v120_at (h : Fin 18) (b : Fin 8) (f : Fin 96) :
    val_main_v120 (F := Ideal) x6 x8 x10 r3 r5 r7 (ix3 h b f) = ((Z b h f + ∑ j, K b h j f : ℝ) : EReal) := by
  pointwise [val_main_v120, val_main_v117, val_main_v116, val_main_v115]
  rw [v89_at x6 x8 r3 r5 r7 K hK, hZ, ← EReal.coe_add, chunk_sum]
  exact congrArg (fun x : ℝ => ((Z b h f + x : ℝ) : EReal)) (upto_last _)

end Cert.ReferenceIdeal.Stage
-- ==== Proof.RefReg.lean ====
/- What the reference's quantiser leaves, at an index: the codes and the scale of each row, the codes again and the weights. -/
module

public import proofs.«01_k».proof.Proof.Spec
public import proofs.«01_k».proof.Proof.Gen.ReferenceIdeal.Run
public import Idealize.ShloMosaic.Lib.Pipeline.Value

@[expose] public section

set_option maxRecDepth 16384

noncomputable section

namespace Cert.ReferenceIdeal.Stage

open Idealize.ShloMosaic Idealize.ShloMosaic.TcCoe Cert.ReferenceIdeal Cert.ReferenceIdeal.Gen Hedgehog

/-! ## The payloads -/

theorem slog (x : EReal) : (Scalar.log (F := Ideal) (φ := .f32) x : EReal) = Ideal.log x := rfl
theorem sbits (w : BitVec 32) : (Scalar.ofBits (F := Ideal) .f32 w : EReal) = Ideal.ofBits .f32 w := rfl
theorem pay9_gen (c l : EReal) (y : FVec Ideal S8x256x18 .f32) (i : S8x256x18.Idx) :
    (floor (divf (log (mulf y (broadcast S8x256x18 c))) (broadcast S8x256x18 l)) : FVec Ideal S8x256x18 .f32) i = Ideal.liftRound Int.floor (Ideal.div (Ideal.log (y i * c)) l) := rfl

theorem pay9_at (x : Vec Ideal S8x256x18x160 .bf16) (b : Fin 8) (t : Fin 256) (h : Fin 18) (a : EReal) (ha : k0_pay8 (F := Ideal) x (ix3 b t h) = a) :
    k0_pay9 (F := Ideal) x (ix3 b t h) = Ideal.liftRound Int.floor (Ideal.div (Ideal.log (a * c448)) (Ideal.log (Ideal.ofBits .f32 0x40000000#32))) := by
  unfold k0_pay9
  refine (pay9_gen _ _ _ _).trans ?_
  rw [ha, slog, sbits, sbits]

theorem exp2_eq (a : EReal) : (FloatOps.exp2 (F := Ideal) (φ := .f32) a : EReal) = Ideal.exp2 a := rfl
theorem absf_eq (a : EReal) : (FloatOps.absf (F := Ideal) (φ := .f32) a : EReal) = absE a := rfl

theorem pay8_at (x : Vec Ideal S8x256x18x160 .bf16) (b : Fin 8) (t : Fin 256) (h : Fin 18) :
    k0_pay8 (F := Ideal) x (ix3 b t h) = amax fun d => x (ix4 b t h d) := by
  pointwise [k0_pay8, k0_pay7]
  simp only [absf_eq, ofBits_ninf]

theorem pay10_at (a v : FVec Ideal S8x256x18 .f32) (b : Fin 8) (t : Fin 256) (h : Fin 18) :
    k0_pay10 (F := Ideal) a v (ix3 b t h) = if a (ix3 b t h) = 0 then 0 else v (ix3 b t h) + 1 := by
  pointwise [k0_pay10]

theorem pay4_eq (x : Vec Ideal S8x256x18x160 .bf16) : k0_pay4 (F := Ideal) x = k0_pay10 (F := Ideal) (k0_pay8 x) (k0_pay9 x) := rfl

/-- The exponent of a row. -/
theorem pay4_at (x : Vec Ideal S8x256x18x160 .bf16) (b : Fin 8) (t : Fin 256) (h : Fin 18) :
    k0_pay4 (F := Ideal) x (ix3 b t h) = expR (amax fun d => x (ix4 b t h d)) := by
  rw [pay4_eq, pay10_at, pay9_at x b t h _ (pay8_at x b t h), pay8_at, expR]

theorem pay5_gen (e : FVec Ideal S8x256x18 .f32) (i : S8x256x18.Idx) : (exp2 e : FVec Ideal S8x256x18 .f32) i = Ideal.exp2 (e i) := rfl

/-- The scale of a row. -/
theorem pay5_at (x : Vec Ideal S8x256x18x160 .bf16) (b : Fin 8) (t : Fin 256) (h : Fin 18) :
    k0_pay5 (F := Ideal) x (ix3 b t h) = scaleR fun d => x (ix4 b t h d) := by
  unfold k0_pay5
  refine (pay5_gen _ _).trans ?_
  rw [pay4_at, scaleR]

/-- The codes of an array under the exponents of its rows. -/
def codesOf (x : Vec Ideal S8x256x18x160 .bf16) (e : FVec Ideal S8x256x18 .f32) : FVec Ideal S8x256x18x160 .fp8e4m3 :=
  truncf .fp8e4m3 (minimumf (broadcast S8x256x18x160 (Scalar.ofBits (F := Ideal) .f32 0x43E00000#32))
    (maximumf (broadcast S8x256x18x160 (Scalar.ofBits (F := Ideal) .f32 0xC3E00000#32))
      (mulf (k0_pay3 x) (broadcastTo S8x256x18x160
        (shapeCast S8x256x18x1 (exp2 (subf (broadcast S8x256x18 (Scalar.ofBits (F := Ideal) .f32 0x00000000#32)) e)) shapeCasts_S8x256x18_S8x256x18x1)
        broadcasts_S8x256x18x1_S8x256x18x160)))) bitsLt_fp8e4m3_f32

theorem codesOf_at (x : Vec Ideal S8x256x18x160 .bf16) (e : FVec Ideal S8x256x18 .f32) (b : Fin 8) (t : Fin 256) (h : Fin 18) (d : Fin 160) :
    codesOf x e (ix4 b t h d) = code (Ideal.exp2 (0 - e (ix3 b t h))) (x (ix4 b t h d)) := by
  pointwise [codesOf, k0_pay3]
  rw [exp2_eq]

theorem pay6_eq (x : Vec Ideal S8x256x18x160 .bf16) : k0_pay6 (F := Ideal) x = codesOf x (k0_pay4 x) := rfl

/-- The codes of a row. -/
theorem pay6_at (x : Vec Ideal S8x256x18x160 .bf16) (b : Fin 8) (t : Fin 256) (h : Fin 18) (d : Fin 160) :
    k0_pay6 (F := Ideal) x (ix4 b t h d) = codeR (fun d => x (ix4 b t h d)) d := by
  rw [pay6_eq, codesOf_at, pay4_at, codeR]

theorem pay11_eq (x : Vec Ideal S8x256x18x160 .bf16) : k0_pay11 (F := Ideal) (k0_pay8 x) (k0_pay9 x) = k0_pay5 (F := Ideal) x := rfl
theorem pay12_eq (x : Vec Ideal S8x256x18x160 .bf16) : k0_pay12 (F := Ideal) (k0_pay7 x) (k0_pay8 x) (k0_pay9 x) = k0_pay6 (F := Ideal) x := rfl

theorem z3 : (![0, 0, 0] : Fin 3 → ℕ) = fun _ => 0 := by funext a; fin_cases a <;> rfl
theorem z4 : (![0, 0, 0, 0] : Fin 4 → ℕ) = fun _ => 0 := by funext a; fin_cases a <;> rfl

section
variable (x0 x1 : Vec Ideal S8x256x18x160 .bf16) (x2 x3 : Vec Ideal S18x160x48 .fp8e4m3)

theorem out4 : (out0_4 (F := Ideal) x0 x1 x2 x3 : S8x256x18x160.Idx → EReal) = k0_pay6 x0 := by
  unfold out0_4 k0_pay15 r0_0
  refine (View.canon_unit_zero z4 _ _).trans ?_
  rw [View.ld_unit_zero z4]

theorem out5 : (out0_5 (F := Ideal) x0 x1 x2 x3 : S8x256x18.Idx → EReal) = k0_pay5 x0 := by
  unfold out0_5 r0_1 r0_0
  refine (View.canon_unit_zero z3 _ _).trans ?_
  rw [View.ld_unit_zero z4]

theorem out6 : (out0_6 (F := Ideal) x0 x1 x2 x3 : S8x256x18x160.Idx → EReal) = k0_pay6 x1 := by
  unfold out0_6 k0_pay16 k0_pay17 k0_pay18 r0_0
  refine (View.canon_unit_zero z4 _ _).trans ?_
  rw [View.ld_unit_zero z4]
  rfl

theorem out7 : (out0_7 (F := Ideal) x0 x1 x2 x3 : S8x256x18.Idx → EReal) = k0_pay5 x1 := by
  unfold out0_7 k0_pay17 k0_pay18 r0_1 r0_0
  refine (View.canon_unit_zero z3 _ _).trans ?_
  rw [View.ld_unit_zero z4]
  rfl

theorem out8 : (out0_8 (F := Ideal) x0 x1 x2 x3 : S8x256x18x160.Idx → EReal) = (k0_pay6 x0 : S8x256x18x160.Idx → EReal) := by
  unfold out0_8 k0_pay15 r0_0
  refine (View.canon_unit_zero z4 _ _).trans ?_
  rw [View.ld_unit_zero z4]
  rfl

theorem out9 : (out0_9 (F := Ideal) x0 x1 x2 x3 : S8x256x18x160.Idx → EReal) = (k0_pay6 x1 : S8x256x18x160.Idx → EReal) := by
  unfold out0_9 k0_pay16 k0_pay17 k0_pay18 r0_0
  refine (View.canon_unit_zero z4 _ _).trans ?_
  rw [View.ld_unit_zero z4]
  rfl

theorem out10 : (out0_10 (F := Ideal) x0 x1 x2 x3 : S18x160x48.Idx → EReal) = (x2 : S18x160x48.Idx → EReal) := by
  unfold out0_10 r0_2
  refine (View.canon_unit_zero z3 _ _).trans ?_
  rw [View.ld_unit_zero z3]
  rfl

theorem out11 : (out0_11 (F := Ideal) x0 x1 x2 x3 : S18x160x48.Idx → EReal) = (x3 : S18x160x48.Idx → EReal) := by
  unfold out0_11 r0_2
  refine (View.canon_unit_zero z3 _ _).trans ?_
  rw [View.ld_unit_zero z3]
  rfl

end

variable (m : (ℓ : Loc nD τ sig) → Buf (Elt Ideal) ℓ) (c : Dev nD)
abbrev b0 : Vec Ideal S8x256x18x160 .bf16 := m ((c : Thread nD τ).loc main_arg0)
abbrev b1 : Vec Ideal S8x256x18x160 .bf16 := m ((c : Thread nD τ).loc main_arg1)
abbrev b3 : Vec Ideal S18x160x48 .fp8e4m3 := m ((c : Thread nD τ).loc main_arg3)
abbrev b5 : Vec Ideal S18x160x48 .fp8e4m3 := m ((c : Thread nD τ).loc main_arg5)

/-! ## The windows are whole arrays -/

/-- The one point of the grid of no axis. -/
abbrev p0 : Fin cfg0.N := ⟨0, by decide⟩

theorem one (t : Fin cfg0.N) : t = p0 := Fin.ext (by have h : t.val < 1 := t.isLt; show t.val = 0; omega)

theorem idx0 : ∀ a : Fin 4, win0_0.index p0 a = 0 := (by decide +kernel : ∀ a : Fin 4, _)
theorem emb0 (y : S8x256x18x160.Idx) : ((cfg0.win 0).blk p0).view.emb y = y := by
  funext a; apply Fin.ext
  match a with
  | ⟨0, _⟩ => show win0_0.index p0 (0 : Fin 4) * 8 + 1 * (y 0).val = (y 0).val; rw [idx0]; omega
  | ⟨1, _⟩ => show win0_0.index p0 (1 : Fin 4) * 256 + 1 * (y 1).val = (y 1).val; rw [idx0]; omega
  | ⟨2, _⟩ => show win0_0.index p0 (2 : Fin 4) * 18 + 1 * (y 2).val = (y 2).val; rw [idx0]; omega
  | ⟨3, _⟩ => show win0_0.index p0 (3 : Fin 4) * 160 + 1 * (y 3).val = (y 3).val; rw [idx0]; omega

theorem idx1 : ∀ a : Fin 4, win0_1.index p0 a = 0 := (by decide +kernel : ∀ a : Fin 4, _)
theorem emb1 (y : S8x256x18x160.Idx) : ((cfg0.win 1).blk p0).view.emb y = y := by
  funext a; apply Fin.ext
  match a with
  | ⟨0, _⟩ => show win0_1.index p0 (0 : Fin 4) * 8 + 1 * (y 0).val = (y 0).val; rw [idx1]; omega
  | ⟨1, _⟩ => show win0_1.index p0 (1 : Fin 4) * 256 + 1 * (y 1).val = (y 1).val; rw [idx1]; omega
  | ⟨2, _⟩ => show win0_1.index p0 (2 : Fin 4) * 18 + 1 * (y 2).val = (y 2).val; rw [idx1]; omega
  | ⟨3, _⟩ => show win0_1.index p0 (3 : Fin 4) * 160 + 1 * (y 3).val = (y 3).val; rw [idx1]; omega

theorem idx2 : ∀ a : Fin 3, win0_2.index p0 a = 0 := (by decide +kernel : ∀ a : Fin 3, _)
theorem emb2 (y : S18x160x48.Idx) : ((cfg0.win 2).blk p0).view.emb y = y := by
  funext a; apply Fin.ext
  match a with
  | ⟨0, _⟩ => show win0_2.index p0 (0 : Fin 3) * 18 + 1 * (y 0).val = (y 0).val; rw [idx2]; omega
  | ⟨1, _⟩ => show win0_2.index p0 (1 : Fin 3) * 160 + 1 * (y 1).val = (y 1).val; rw [idx2]; omega
  | ⟨2, _⟩ => show win0_2.index p0 (2 : Fin 3) * 48 + 1 * (y 2).val = (y 2).val; rw [idx2]; omega

theorem idx3 : ∀ a : Fin 3, win0_3.index p0 a = 0 := (by decide +kernel : ∀ a : Fin 3, _)
theorem emb3 (y : S18x160x48.Idx) : ((cfg0.win 3).blk p0).view.emb y = y := by
  funext a; apply Fin.ext
  match a with
  | ⟨0, _⟩ => show win0_3.index p0 (0 : Fin 3) * 18 + 1 * (y 0).val = (y 0).val; rw [idx3]; omega
  | ⟨1, _⟩ => show win0_3.index p0 (1 : Fin 3) * 160 + 1 * (y 1).val = (y 1).val; rw [idx3]; omega
  | ⟨2, _⟩ => show win0_3.index p0 (2 : Fin 3) * 48 + 1 * (y 2).val = (y 2).val; rw [idx3]; omega

theorem idx4 : ∀ a : Fin 4, win0_4.index p0 a = 0 := (by decide +kernel : ∀ a : Fin 4, _)
theorem emb4 (y : S8x256x18x160.Idx) : ((cfg0.win 4).blk p0).view.emb y = y := by
  funext a; apply Fin.ext
  match a with
  | ⟨0, _⟩ => show win0_4.index p0 (0 : Fin 4) * 8 + 1 * (y 0).val = (y 0).val; rw [idx4]; omega
  | ⟨1, _⟩ => show win0_4.index p0 (1 : Fin 4) * 256 + 1 * (y 1).val = (y 1).val; rw [idx4]; omega
  | ⟨2, _⟩ => show win0_4.index p0 (2 : Fin 4) * 18 + 1 * (y 2).val = (y 2).val; rw [idx4]; omega
  | ⟨3, _⟩ => show win0_4.index p0 (3 : Fin 4) * 160 + 1 * (y 3).val = (y 3).val; rw [idx4]; omega

theorem idx5 : ∀ a : Fin 3, win0_5.index p0 a = 0 := (by decide +kernel : ∀ a : Fin 3, _)
theorem emb5 (y : S8x256x18.Idx) : ((cfg0.win 5).blk p0).view.emb y = y := by
  funext a; apply Fin.ext
  match a with
  | ⟨0, _⟩ => show win0_5.index p0 (0 : Fin 3) * 8 + 1 * (y 0).val = (y 0).val; rw [idx5]; omega
  | ⟨1, _⟩ => show win0_5.index p0 (1 : Fin 3) * 256 + 1 * (y 1).val = (y 1).val; rw [idx5]; omega
  | ⟨2, _⟩ => show win0_5.index p0 (2 : Fin 3) * 18 + 1 * (y 2).val = (y 2).val; rw [idx5]; omega

theorem idx6 : ∀ a : Fin 4, win0_6.index p0 a = 0 := (by decide +kernel : ∀ a : Fin 4, _)
theorem emb6 (y : S8x256x18x160.Idx) : ((cfg0.win 6).blk p0).view.emb y = y := by
  funext a; apply Fin.ext
  match a with
  | ⟨0, _⟩ => show win0_6.index p0 (0 : Fin 4) * 8 + 1 * (y 0).val = (y 0).val; rw [idx6]; omega
  | ⟨1, _⟩ => show win0_6.index p0 (1 : Fin 4) * 256 + 1 * (y 1).val = (y 1).val; rw [idx6]; omega
  | ⟨2, _⟩ => show win0_6.index p0 (2 : Fin 4) * 18 + 1 * (y 2).val = (y 2).val; rw [idx6]; omega
  | ⟨3, _⟩ => show win0_6.index p0 (3 : Fin 4) * 160 + 1 * (y 3).val = (y 3).val; rw [idx6]; omega

theorem idx7 : ∀ a : Fin 3, win0_7.index p0 a = 0 := (by decide +kernel : ∀ a : Fin 3, _)
theorem emb7 (y : S8x256x18.Idx) : ((cfg0.win 7).blk p0).view.emb y = y := by
  funext a; apply Fin.ext
  match a with
  | ⟨0, _⟩ => show win0_7.index p0 (0 : Fin 3) * 8 + 1 * (y 0).val = (y 0).val; rw [idx7]; omega
  | ⟨1, _⟩ => show win0_7.index p0 (1 : Fin 3) * 256 + 1 * (y 1).val = (y 1).val; rw [idx7]; omega
  | ⟨2, _⟩ => show win0_7.index p0 (2 : Fin 3) * 18 + 1 * (y 2).val = (y 2).val; rw [idx7]; omega

theorem idx8 : ∀ a : Fin 4, win0_8.index p0 a = 0 := (by decide +kernel : ∀ a : Fin 4, _)
theorem emb8 (y : S8x256x18x160.Idx) : ((cfg0.win 8).blk p0).view.emb y = y := by
  funext a; apply Fin.ext
  match a with
  | ⟨0, _⟩ => show win0_8.index p0 (0 : Fin 4) * 8 + 1 * (y 0).val = (y 0).val; rw [idx8]; omega
  | ⟨1, _⟩ => show win0_8.index p0 (1 : Fin 4) * 256 + 1 * (y 1).val = (y 1).val; rw [idx8]; omega
  | ⟨2, _⟩ => show win0_8.index p0 (2 : Fin 4) * 18 + 1 * (y 2).val = (y 2).val; rw [idx8]; omega
  | ⟨3, _⟩ => show win0_8.index p0 (3 : Fin 4) * 160 + 1 * (y 3).val = (y 3).val; rw [idx8]; omega

theorem idx9 : ∀ a : Fin 4, win0_9.index p0 a = 0 := (by decide +kernel : ∀ a : Fin 4, _)
theorem emb9 (y : S8x256x18x160.Idx) : ((cfg0.win 9).blk p0).view.emb y = y := by
  funext a; apply Fin.ext
  match a with
  | ⟨0, _⟩ => show win0_9.index p0 (0 : Fin 4) * 8 + 1 * (y 0).val = (y 0).val; rw [idx9]; omega
  | ⟨1, _⟩ => show win0_9.index p0 (1 : Fin 4) * 256 + 1 * (y 1).val = (y 1).val; rw [idx9]; omega
  | ⟨2, _⟩ => show win0_9.index p0 (2 : Fin 4) * 18 + 1 * (y 2).val = (y 2).val; rw [idx9]; omega
  | ⟨3, _⟩ => show win0_9.index p0 (3 : Fin 4) * 160 + 1 * (y 3).val = (y 3).val; rw [idx9]; omega

theorem idx10 : ∀ a : Fin 3, win0_10.index p0 a = 0 := (by decide +kernel : ∀ a : Fin 3, _)
theorem emb10 (y : S18x160x48.Idx) : ((cfg0.win 10).blk p0).view.emb y = y := by
  funext a; apply Fin.ext
  match a with
  | ⟨0, _⟩ => show win0_10.index p0 (0 : Fin 3) * 18 + 1 * (y 0).val = (y 0).val; rw [idx10]; omega
  | ⟨1, _⟩ => show win0_10.index p0 (1 : Fin 3) * 160 + 1 * (y 1).val = (y 1).val; rw [idx10]; omega
  | ⟨2, _⟩ => show win0_10.index p0 (2 : Fin 3) * 48 + 1 * (y 2).val = (y 2).val; rw [idx10]; omega

theorem idx11 : ∀ a : Fin 3, win0_11.index p0 a = 0 := (by decide +kernel : ∀ a : Fin 3, _)
theorem emb11 (y : S18x160x48.Idx) : ((cfg0.win 11).blk p0).view.emb y = y := by
  funext a; apply Fin.ext
  match a with
  | ⟨0, _⟩ => show win0_11.index p0 (0 : Fin 3) * 18 + 1 * (y 0).val = (y 0).val; rw [idx11]; omega
  | ⟨1, _⟩ => show win0_11.index p0 (1 : Fin 3) * 160 + 1 * (y 1).val = (y 1).val; rw [idx11]; omega
  | ⟨2, _⟩ => show win0_11.index p0 (2 : Fin 3) * 48 + 1 * (y 2).val = (y 2).val; rw [idx11]; omega

theorem in0 : (iblk m c 0 p0 : S8x256x18x160.Idx → EReal) = b0 m c := by
  funext z
  show V m c main_arg0 (((cfg0.win 0).blk p0).view.emb z) = _
  rw [emb0]
  rfl

theorem in1 : (iblk m c 1 p0 : S8x256x18x160.Idx → EReal) = b1 m c := by
  funext z
  show V m c main_arg1 (((cfg0.win 1).blk p0).view.emb z) = _
  rw [emb1]
  rfl

theorem in2 : (iblk m c 2 p0 : S18x160x48.Idx → EReal) = b3 m c := by
  funext z
  show V m c main_arg3 (((cfg0.win 2).blk p0).view.emb z) = _
  rw [emb2]
  rfl

theorem in3 : (iblk m c 3 p0 : S18x160x48.Idx → EReal) = b5 m c := by
  funext z
  show V m c main_arg5 (((cfg0.win 3).blk p0).view.emb z) = _
  rw [emb3]
  rfl

theorem reg4 (y : S8x256x18x160.Idx) : (dats m 0 c).arrAt 4 cfg0.N y = (out0_4 (F := Ideal) (iblk m c 0 p0) (iblk m c 1 p0) (iblk m c 2 p0) (iblk m c 3 p0) y : EReal) := by
  have b := congrFun ((dats m 0 c).read_blk_arrAt_eq_flushed 4 (fun t t' _ _ hne => absurd ((one t).trans (one t').symm) hne) cfg0.N p0 p0.isLt (flush0_4 p0)) y
  have f : (dats m 0 c).flushed 4 p0 = (cfg0.win 4).cut (grid0.coords p0) (out0_4 (iblk m c 0 p0) (iblk m c 1 p0) (iblk m c 2 p0) (iblk m c 3 p0)) := by
    show (cfg0.win 4).cut (grid0.coords p0) ((dats m 0 c).after 4 p0) = _
    rw [after0_4]
  rw [f] at b
  have b' : (dats m 0 c).arrAt 4 cfg0.N (((cfg0.win 4).blk p0).view.emb y) = _ := b
  rw [emb4] at b'
  exact b'

theorem reg4_at (b : Fin 8) (t : Fin 256) (h : Fin 18) (d : Fin 160) :
    (dats m 0 c).arrAt 4 cfg0.N (ix4 b t h d) = codeR (fun d => b0 m c (ix4 b t h d)) d := by
  rw [reg4, out4]
  rw [pay6_at, in0]

theorem reg5 (y : S8x256x18.Idx) : (dats m 0 c).arrAt 5 cfg0.N y = (out0_5 (F := Ideal) (iblk m c 0 p0) (iblk m c 1 p0) (iblk m c 2 p0) (iblk m c 3 p0) y : EReal) := by
  have b := congrFun ((dats m 0 c).read_blk_arrAt_eq_flushed 5 (fun t t' _ _ hne => absurd ((one t).trans (one t').symm) hne) cfg0.N p0 p0.isLt (flush0_5 p0)) y
  have f : (dats m 0 c).flushed 5 p0 = (cfg0.win 5).cut (grid0.coords p0) (out0_5 (iblk m c 0 p0) (iblk m c 1 p0) (iblk m c 2 p0) (iblk m c 3 p0)) := by
    show (cfg0.win 5).cut (grid0.coords p0) ((dats m 0 c).after 5 p0) = _
    rw [after0_5]
  rw [f] at b
  have b' : (dats m 0 c).arrAt 5 cfg0.N (((cfg0.win 5).blk p0).view.emb y) = _ := b
  rw [emb5] at b'
  exact b'

theorem reg5_at (b : Fin 8) (t : Fin 256) (h : Fin 18) :
    (dats m 0 c).arrAt 5 cfg0.N (ix3 b t h) = scaleR (fun d => b0 m c (ix4 b t h d)) := by
  rw [reg5, out5]
  rw [pay5_at, in0]

theorem reg6 (y : S8x256x18x160.Idx) : (dats m 0 c).arrAt 6 cfg0.N y = (out0_6 (F := Ideal) (iblk m c 0 p0) (iblk m c 1 p0) (iblk m c 2 p0) (iblk m c 3 p0) y : EReal) := by
  have b := congrFun ((dats m 0 c).read_blk_arrAt_eq_flushed 6 (fun t t' _ _ hne => absurd ((one t).trans (one t').symm) hne) cfg0.N p0 p0.isLt (flush0_6 p0)) y
  have f : (dats m 0 c).flushed 6 p0 = (cfg0.win 6).cut (grid0.coords p0) (out0_6 (iblk m c 0 p0) (iblk m c 1 p0) (iblk m c 2 p0) (iblk m c 3 p0)) := by
    show (cfg0.win 6).cut (grid0.coords p0) ((dats m 0 c).after 6 p0) = _
    rw [after0_6]
  rw [f] at b
  have b' : (dats m 0 c).arrAt 6 cfg0.N (((cfg0.win 6).blk p0).view.emb y) = _ := b
  rw [emb6] at b'
  exact b'

theorem reg6_at (b : Fin 8) (t : Fin 256) (h : Fin 18) (d : Fin 160) :
    (dats m 0 c).arrAt 6 cfg0.N (ix4 b t h d) = codeR (fun d => b1 m c (ix4 b t h d)) d := by
  rw [reg6, out6]
  rw [pay6_at, in1]

theorem reg7 (y : S8x256x18.Idx) : (dats m 0 c).arrAt 7 cfg0.N y = (out0_7 (F := Ideal) (iblk m c 0 p0) (iblk m c 1 p0) (iblk m c 2 p0) (iblk m c 3 p0) y : EReal) := by
  have b := congrFun ((dats m 0 c).read_blk_arrAt_eq_flushed 7 (fun t t' _ _ hne => absurd ((one t).trans (one t').symm) hne) cfg0.N p0 p0.isLt (flush0_7 p0)) y
  have f : (dats m 0 c).flushed 7 p0 = (cfg0.win 7).cut (grid0.coords p0) (out0_7 (iblk m c 0 p0) (iblk m c 1 p0) (iblk m c 2 p0) (iblk m c 3 p0)) := by
    show (cfg0.win 7).cut (grid0.coords p0) ((dats m 0 c).after 7 p0) = _
    rw [after0_7]
  rw [f] at b
  have b' : (dats m 0 c).arrAt 7 cfg0.N (((cfg0.win 7).blk p0).view.emb y) = _ := b
  rw [emb7] at b'
  exact b'

theorem reg7_at (b : Fin 8) (t : Fin 256) (h : Fin 18) :
    (dats m 0 c).arrAt 7 cfg0.N (ix3 b t h) = scaleR (fun d => b1 m c (ix4 b t h d)) := by
  rw [reg7, out7]
  rw [pay5_at, in1]

theorem reg8 (y : S8x256x18x160.Idx) : (dats m 0 c).arrAt 8 cfg0.N y = (out0_8 (F := Ideal) (iblk m c 0 p0) (iblk m c 1 p0) (iblk m c 2 p0) (iblk m c 3 p0) y : EReal) := by
  have b := congrFun ((dats m 0 c).read_blk_arrAt_eq_flushed 8 (fun t t' _ _ hne => absurd ((one t).trans (one t').symm) hne) cfg0.N p0 p0.isLt (flush0_8 p0)) y
  have f : (dats m 0 c).flushed 8 p0 = (cfg0.win 8).cut (grid0.coords p0) (out0_8 (iblk m c 0 p0) (iblk m c 1 p0) (iblk m c 2 p0) (iblk m c 3 p0)) := by
    show (cfg0.win 8).cut (grid0.coords p0) ((dats m 0 c).after 8 p0) = _
    rw [after0_8]
  rw [f] at b
  have b' : (dats m 0 c).arrAt 8 cfg0.N (((cfg0.win 8).blk p0).view.emb y) = _ := b
  rw [emb8] at b'
  exact b'

theorem reg8_at (b : Fin 8) (t : Fin 256) (h : Fin 18) (d : Fin 160) :
    (dats m 0 c).arrAt 8 cfg0.N (ix4 b t h d) = codeR (fun d => b0 m c (ix4 b t h d)) d := by
  rw [reg8, out8]
  rw [pay6_at, in0]

theorem reg9 (y : S8x256x18x160.Idx) : (dats m 0 c).arrAt 9 cfg0.N y = (out0_9 (F := Ideal) (iblk m c 0 p0) (iblk m c 1 p0) (iblk m c 2 p0) (iblk m c 3 p0) y : EReal) := by
  have b := congrFun ((dats m 0 c).read_blk_arrAt_eq_flushed 9 (fun t t' _ _ hne => absurd ((one t).trans (one t').symm) hne) cfg0.N p0 p0.isLt (flush0_9 p0)) y
  have f : (dats m 0 c).flushed 9 p0 = (cfg0.win 9).cut (grid0.coords p0) (out0_9 (iblk m c 0 p0) (iblk m c 1 p0) (iblk m c 2 p0) (iblk m c 3 p0)) := by
    show (cfg0.win 9).cut (grid0.coords p0) ((dats m 0 c).after 9 p0) = _
    rw [after0_9]
  rw [f] at b
  have b' : (dats m 0 c).arrAt 9 cfg0.N (((cfg0.win 9).blk p0).view.emb y) = _ := b
  rw [emb9] at b'
  exact b'

theorem reg9_at (b : Fin 8) (t : Fin 256) (h : Fin 18) (d : Fin 160) :
    (dats m 0 c).arrAt 9 cfg0.N (ix4 b t h d) = codeR (fun d => b1 m c (ix4 b t h d)) d := by
  rw [reg9, out9]
  rw [pay6_at, in1]

theorem reg10 (y : S18x160x48.Idx) : (dats m 0 c).arrAt 10 cfg0.N y = (out0_10 (F := Ideal) (iblk m c 0 p0) (iblk m c 1 p0) (iblk m c 2 p0) (iblk m c 3 p0) y : EReal) := by
  have b := congrFun ((dats m 0 c).read_blk_arrAt_eq_flushed 10 (fun t t' _ _ hne => absurd ((one t).trans (one t').symm) hne) cfg0.N p0 p0.isLt (flush0_10 p0)) y
  have f : (dats m 0 c).flushed 10 p0 = (cfg0.win 10).cut (grid0.coords p0) (out0_10 (iblk m c 0 p0) (iblk m c 1 p0) (iblk m c 2 p0) (iblk m c 3 p0)) := by
    show (cfg0.win 10).cut (grid0.coords p0) ((dats m 0 c).after 10 p0) = _
    rw [after0_10]
  rw [f] at b
  have b' : (dats m 0 c).arrAt 10 cfg0.N (((cfg0.win 10).blk p0).view.emb y) = _ := b
  rw [emb10] at b'
  exact b'

theorem reg10_at (h : Fin 18) (d : Fin 160) (f : Fin 48) :
    (dats m 0 c).arrAt 10 cfg0.N (ix3 h d f) = b3 m c (ix3 h d f) := by
  rw [reg10, out10]
  rw [in2]

theorem reg11 (y : S18x160x48.Idx) : (dats m 0 c).arrAt 11 cfg0.N y = (out0_11 (F := Ideal) (iblk m c 0 p0) (iblk m c 1 p0) (iblk m c 2 p0) (iblk m c 3 p0) y : EReal) := by
  have b := congrFun ((dats m 0 c).read_blk_arrAt_eq_flushed 11 (fun t t' _ _ hne => absurd ((one t).trans (one t').symm) hne) cfg0.N p0 p0.isLt (flush0_11 p0)) y
  have f : (dats m 0 c).flushed 11 p0 = (cfg0.win 11).cut (grid0.coords p0) (out0_11 (iblk m c 0 p0) (iblk m c 1 p0) (iblk m c 2 p0) (iblk m c 3 p0)) := by
    show (cfg0.win 11).cut (grid0.coords p0) ((dats m 0 c).after 11 p0) = _
    rw [after0_11]
  rw [f] at b
  have b' : (dats m 0 c).arrAt 11 cfg0.N (((cfg0.win 11).blk p0).view.emb y) = _ := b
  rw [emb11] at b'
  exact b'

theorem reg11_at (h : Fin 18) (d : Fin 160) (f : Fin 48) :
    (dats m 0 c).arrAt 11 cfg0.N (ix3 h d f) = b5 m c (ix3 h d f) := by
  rw [reg11, out11]
  rw [in3]

end Cert.ReferenceIdeal.Stage
-- ==== Proof.RefVal.lean ====
/- What the reference leaves in its seven results, at an index. -/
module

public import proofs.«01_k».proof.Proof.RefB
public import proofs.«01_k».proof.Proof.RefReg

@[expose] public section

set_option maxRecDepth 16384

noncomputable section

namespace Cert.ReferenceIdeal.Stage

open Idealize.ShloMosaic Idealize.ShloMosaic.TcCoe Cert.ReferenceIdeal Cert.ReferenceIdeal.Gen Cert.ReferenceIdeal.Value Cert.ReferenceIdeal.Read Hedgehog

/-- The features are the plain ones once the codes, the scales and the weights are. -/
theorem feat_at (x : FVec Ideal S8x256x18x160 .bf16) (w : FVec Ideal S18x160x48 .fp8e4m3) (x4 x7 : FVec Ideal S18x48 .f32) (r1 : FVec Ideal S8x256x18 .f32)
    (r4 : FVec Ideal S8x256x18x160 .bf16) (r6 : FVec Ideal S18x160x48 .bf16)
    (h1 : ∀ b t h, r1 (ix3 b t h) = scaleR fun d : Fin 160 => x (ix4 b t h d)) (h4 : ∀ b t h d, r4 (ix4 b t h d) = codeR (fun d : Fin 160 => x (ix4 b t h d)) d)
    (h6 : ∀ h d f, r6 (ix3 h d f) = w (ix3 h d f)) (b : Fin 8) (t : Fin 256) (h : Fin 18) (f : Fin 96) :
    val_main_v36 (F := Ideal) x4 x7 r1 r4 r6 (ix4 b t h f) = (Phi x w x4 x7 b h t f : EReal) := by
  have e : lg x4 x7 r1 r4 r6 b t h = logits (fun d => x (ix4 b t h d)) (fun d f => w (ix3 h d f)) (fun f => x4 (ix2 h f)) (fun f => x7 (ix2 h f)) := by
    funext f
    simp only [lg, logits, h1, h4, h6]
  rw [v36_at, e, phi_eq, Phi]

variable (m : (ℓ : Loc nD τ sig) → Buf (Elt Ideal) ℓ) (c : Dev nD)

abbrev b2 : Vec Ideal S8x256x18x160 .bf16 := m ((c : Thread nD τ).loc main_arg2)
abbrev b4 : Vec Ideal S18x48 .f32 := m ((c : Thread nD τ).loc main_arg4)
abbrev b6 : Vec Ideal S18x48 .f32 := m ((c : Thread nD τ).loc main_arg6)
abbrev b7 : Vec Ideal S18x48 .f32 := m ((c : Thread nD τ).loc main_arg7)
abbrev b8 : Vec Ideal S18x48 .f32 := m ((c : Thread nD τ).loc main_arg8)
abbrev b9 : Vec Ideal S8x18x96x160 .f32 := m ((c : Thread nD τ).loc main_arg9)
abbrev b10 : Vec Ideal S8x18x96 .f32 := m ((c : Thread nD τ).loc main_arg10)

abbrev RQ (b : Fin 8) (h : Fin 18) (t : Fin 256) (f : Fin 96) : ℝ := Phi (b0 m c) (b3 m c) (b4 m c) (b7 m c) b h t f
abbrev RK (b : Fin 8) (h : Fin 18) (t : Fin 256) (f : Fin 96) : ℝ := Phi (b1 m c) (b5 m c) (b6 m c) (b8 m c) b h t f

theorem featQ (b : Fin 8) (t : Fin 256) (h : Fin 18) (f : Fin 96) :
    val_main_v36 (F := Ideal) (b4 m c) (b7 m c) (reg_main_v0_1 m c) (reg_main_v0_4 m c) (reg_main_v0_6 m c) (ix4 b t h f) = (RQ m c b h t f : EReal) :=
  feat_at (b0 m c) (b3 m c) _ _ _ _ _ (reg5_at m c) (reg8_at m c) (reg10_at m c) b t h f

theorem featK (b : Fin 8) (t : Fin 256) (h : Fin 18) (f : Fin 96) :
    val_main_v36 (F := Ideal) (b6 m c) (b8 m c) (reg_main_v0_3 m c) (reg_main_v0_5 m c) (reg_main_v0_7 m c) (ix4 b t h f) = (RK m c b h t f : EReal) :=
  feat_at (b1 m c) (b5 m c) _ _ _ _ _ (reg7_at m c) (reg9_at m c) (reg11_at m c) b t h f

section
variable (V : Fin 8 → Fin 256 → Fin 18 → Fin 160 → ℝ) (hV : ∀ b t h d, b2 m c (ix4 b t h d) = (V b t h d : EReal))
  (T : Fin 8 → Fin 18 → Fin 96 → Fin 160 → ℝ) (hT : ∀ b h f d, b9 m c (ix4 b h f d) = (T b h f d : EReal))
  (Z : Fin 8 → Fin 18 → Fin 96 → ℝ) (hZ : ∀ b h f, b10 m c (ix3 b h f) = (Z b h f : EReal))

include hV hT hZ in
theorem r118 (b : Fin 8) (h : Fin 18) (d : Fin 160) (t : Fin 256) :
    val_main_v118 (F := Ideal) (exitV m c (Proc.devRef .tc main_arg2)) (exitV m c (Proc.devRef .tc main_arg4)) (exitV m c (Proc.devRef .tc main_arg6)) (exitV m c (Proc.devRef .tc main_arg7))
      (exitV m c (Proc.devRef .tc main_arg8)) (exitV m c (Proc.devRef .tc main_arg9)) (exitV m c (Proc.devRef .tc main_arg10)) (exitV m c (Proc.devRef .tc main_v0_1))
      (exitV m c (Proc.devRef .tc main_v0_3)) (exitV m c (Proc.devRef .tc main_v0_4)) (exitV m c (Proc.devRef .tc main_v0_5)) (exitV m c (Proc.devRef .tc main_v0_6)) (exitV m c (Proc.devRef .tc main_v0_7)) (ix4 b h d t)
    = (numS (RK m c b h) (RQ m c b h) (fun j => V b j h d) (fun f => T b h f d) t : EReal) * Ideal.div 1 (denS (RK m c b h) (RQ m c b h) (Z b h) t : EReal) := by
  rw [exit_main_arg2, exit_main_arg4, exit_main_arg6, exit_main_arg7, exit_main_arg8, exit_main_arg9, exit_main_arg10, exit_main_v0_1, exit_main_v0_3, exit_main_v0_4, exit_main_v0_5, exit_main_v0_6, exit_main_v0_7]
  exact v118_at (b2 m c) (b4 m c) (b6 m c) (b7 m c) (b8 m c) (b9 m c) (b10 m c) (reg_main_v0_1 m c) (reg_main_v0_3 m c) (reg_main_v0_4 m c) (reg_main_v0_5 m c) (reg_main_v0_6 m c) (reg_main_v0_7 m c)
    (RQ m c) (RK m c) (featQ m c) (featK m c) V hV T hT Z hZ b h d t

include hV hT in
theorem r119 (b : Fin 8) (h : Fin 18) (d : Fin 160) (f : Fin 96) :
    val_main_v119 (F := Ideal) (exitV m c (Proc.devRef .tc main_arg2)) (exitV m c (Proc.devRef .tc main_arg6)) (exitV m c (Proc.devRef .tc main_arg8)) (exitV m c (Proc.devRef .tc main_arg9))
      (exitV m c (Proc.devRef .tc main_v0_3)) (exitV m c (Proc.devRef .tc main_v0_5)) (exitV m c (Proc.devRef .tc main_v0_7)) (ix4 b h d f)
    = ((T b h f d + ∑ j, RK m c b h j f * V b j h d : ℝ) : EReal) := by
  rw [exit_main_arg2, exit_main_arg6, exit_main_arg8, exit_main_arg9, exit_main_v0_3, exit_main_v0_5, exit_main_v0_7]
  exact v119_at (b2 m c) (b6 m c) (b8 m c) (b9 m c) (reg_main_v0_3 m c) (reg_main_v0_5 m c) (reg_main_v0_7 m c) (RK m c) (featK m c) V hV T hT b h d f

include hZ in
theorem r120 (h : Fin 18) (b : Fin 8) (f : Fin 96) :
    val_main_v120 (F := Ideal) (exitV m c (Proc.devRef .tc main_arg6)) (exitV m c (Proc.devRef .tc main_arg8)) (exitV m c (Proc.devRef .tc main_arg10))
      (exitV m c (Proc.devRef .tc main_v0_3)) (exitV m c (Proc.devRef .tc main_v0_5)) (exitV m c (Proc.devRef .tc main_v0_7)) (ix3 h b f)
    = ((Z b h f + ∑ j, RK m c b h j f : ℝ) : EReal) := by
  rw [exit_main_arg6, exit_main_arg8, exit_main_arg10, exit_main_v0_3, exit_main_v0_5, exit_main_v0_7]
  exact v120_at (b6 m c) (b8 m c) (b10 m c) (reg_main_v0_3 m c) (reg_main_v0_5 m c) (reg_main_v0_7 m c) (RK m c) (featK m c) Z hZ h b f

end

theorem tr4 (r : FVec Ideal S8x256x18x160 .fp8e4m3) (b : Fin 8) (h : Fin 18) (d : Fin 160) (t : Fin 256) : val_main_v121 (F := Ideal) r (ix4 b h d t) = r (ix4 b t h d) := by
  pointwise [val_main_v121]
theorem tr3 (r : FVec Ideal S8x256x18 .f32) (h : Fin 18) (b : Fin 8) (t : Fin 256) : val_main_v122 (F := Ideal) r (ix3 h b t) = r (ix3 b t h) := by
  pointwise [val_main_v122]

theorem r121 (b : Fin 8) (h : Fin 18) (d : Fin 160) (t : Fin 256) :
    val_main_v121 (F := Ideal) (exitV m c (Proc.devRef .tc main_v0_0)) (ix4 b h d t) = codeR (fun d : Fin 160 => b0 m c (ix4 b t h d)) d := by
  rw [exit_main_v0_0, tr4]; exact reg4_at m c b t h d
theorem r122 (h : Fin 18) (b : Fin 8) (t : Fin 256) :
    val_main_v122 (F := Ideal) (exitV m c (Proc.devRef .tc main_v0_1)) (ix3 h b t) = scaleR (fun d : Fin 160 => b0 m c (ix4 b t h d)) := by
  rw [exit_main_v0_1, tr3]; exact reg5_at m c b t h
theorem r123 (b : Fin 8) (h : Fin 18) (d : Fin 160) (t : Fin 256) :
    val_main_v123 (F := Ideal) (exitV m c (Proc.devRef .tc main_v0_2)) (ix4 b h d t) = codeR (fun d : Fin 160 => b1 m c (ix4 b t h d)) d := by
  rw [exit_main_v0_2]; exact (tr4 _ b h d t).trans (reg6_at m c b t h d)
theorem r124 (h : Fin 18) (b : Fin 8) (t : Fin 256) :
    val_main_v124 (F := Ideal) (exitV m c (Proc.devRef .tc main_v0_3)) (ix3 h b t) = scaleR (fun d : Fin 160 => b1 m c (ix4 b t h d)) := by
  rw [exit_main_v0_3]; exact (tr3 _ h b t).trans (reg7_at m c b t h)

end Cert.ReferenceIdeal.Stage
-- ==== Proof.Pre.lean ====
/- What the precondition says of the arguments, element by element. -/
module

public import proofs.«01_k».proof.Proof.Spec
public import proofs.«01_k».proof.Proof.Gen.Pre_in_range

@[expose] public section

set_option maxRecDepth 16384

noncomputable section

namespace Hedgehog

open Idealize.ShloMosaic Cert.Pre_in_range Cert.Pre_in_range.Gen

theorem and_one {a b : BitVec 1} : a &&& b = 1#1 ↔ a = 1#1 ∧ b = 1#1 := by revert a b; decide
theorem or_one {a b : BitVec 1} : a ||| b = 1#1 ↔ a = 1#1 ∨ b = 1#1 := by revert a b; decide

theorem ofBool_one {p : Bool} : BitVec.ofBool p = 1#1 ↔ p = true := by cases p <;> decide

variable {x0 x1 x2 : FVec Ideal S8x256x18x160 .bf16} {x3 x5 : FVec Ideal S18x160x48 .fp8e4m3} {x4 x6 x7 x8 : FVec Ideal S18x48 .f32}
  {x9 : FVec Ideal S8x18x96x160 .f32} {x10 : FVec Ideal S8x18x96 .f32}

theorem abs_real {x M : EReal} (hM : ∃ r : ℝ, M = r) (h : max x (-x) ≤ M) : ∃ r : ℝ, x = r := by
  obtain ⟨r, rfl⟩ := hM
  induction x with
  | bot => simp at h
  | top => simp at h
  | coe x => exact ⟨x, rfl⟩

/-- The largest magnitude of each row, as the precondition computes it. -/
def maxRow (x : FVec Ideal S8x256x18x160 .bf16) : FVec Ideal S8x256x18 .f32 :=
  Host.reduce FloatOps.maximumf (extf .f32 (Host.absf x) bitsLt_bf16_f32) (constant (F := Ideal) S_ .f32 0xFF800000#32) reducesTo_S8x256x18x160_S8x256x18_d3 h_S_

/-- Whether that magnitude is in range. -/
def okRow (a : FVec Ideal S8x256x18 .f32) : IVec S8x256x18 1 :=
  ori (cmpf .oeq a (broadcastInDim S8x256x18 ![] bcast_S_S8x256x18 (constant (F := Ideal) S_ .f32 0x00000000#32)))
    (andi (cmpf .oge (mulf a (broadcastInDim S8x256x18 ![] bcast_S_S8x256x18 (constant (F := Ideal) S_ .f32 0x3B124925#32)))
        (broadcastInDim S8x256x18 ![] bcast_S_S8x256x18 (constant (F := Ideal) S_ .f32 0x00800000#32)))
      (cmpf .ole a (broadcastInDim S8x256x18 ![] bcast_S_S8x256x18 (constant (F := Ideal) S_ .f32 0x7F7F0000#32))))

theorem absb_eq (a : EReal) : (FloatOps.absf (F := Ideal) (φ := .bf16) a : EReal) = absE a := rfl
theorem absh_eq (a : EReal) : (FloatOps.absf (F := Ideal) (φ := .f32) a : EReal) = absE a := rfl

theorem maxRow_at (x : FVec Ideal S8x256x18x160 .bf16) (b : Fin 8) (t : Fin 256) (h : Fin 18) :
    maxRow x (ix3 b t h) = amax fun d => x (ix4 b t h d) := by
  pointwise [maxRow]
  simp only [absb_eq, absh_eq, ofBits_ninf]

theorem okRow_at (a : FVec Ideal S8x256x18 .f32) (b : Fin 8) (t : Fin 256) (h : Fin 18) (hp : okRow a (ix3 b t h) = 1#1) : Scalable (a (ix3 b t h)) := by
  revert hp
  generalize ea : a (ix3 b t h) = r
  pointwise [okRow]
  simp only [ea, IntOp.ori, IntOp.andi, or_one, and_one, ofBool_one, decide_eq_true_eq]
  exact fun h => h

theorem fn0 : (fn (F := Ideal) x0 x1 x2 x3 x4 x5 x6 x7 x8 x9 x10).1 = okRow (maxRow x0) := rfl
theorem fn1 : (fn (F := Ideal) x0 x1 x2 x3 x4 x5 x6 x7 x8 x9 x10).2.1 = okRow (maxRow x1) := rfl

/-- Whether an entry of `v` is finite. -/
def okV (x : FVec Ideal S8x256x18x160 .bf16) : IVec S8x256x18x160 1 :=
  cmpf .ole (Host.absf (extf .f32 x bitsLt_bf16_f32)) (broadcastInDim S8x256x18x160 ![] bcast_S_S8x256x18x160 (constant (F := Ideal) S_ .f32 0x7F7F0000#32))
def okT (x : FVec Ideal S8x18x96x160 .f32) : IVec S8x18x96x160 1 :=
  cmpf .ole (Host.absf x) (broadcastInDim S8x18x96x160 ![] bcast_S_S8x18x96x160 (constant (F := Ideal) S_ .f32 0x7F7FFFFF#32))
def okZ (x : FVec Ideal S8x18x96 .f32) : IVec S8x18x96 1 :=
  cmpf .ole (Host.absf x) (broadcastInDim S8x18x96 ![] bcast_S_S8x18x96 (constant (F := Ideal) S_ .f32 0x7F7FFFFF#32))

theorem okV_at (x : FVec Ideal S8x256x18x160 .bf16) (b : Fin 8) (t : Fin 256) (h : Fin 18) (d : Fin 160) (hp : okV x (ix4 b t h d) = 1#1) : ∃ r : ℝ, x (ix4 b t h d) = (r : EReal) := by
  revert hp
  pointwise [okV]
  simp only [absb_eq, absh_eq, ofBool_one, decide_eq_true_eq]
  exact abs_real (bf16_max_real.imp fun _ h => h.1)

theorem okT_at (x : FVec Ideal S8x18x96x160 .f32) (b : Fin 8) (h : Fin 18) (f : Fin 96) (d : Fin 160) (hp : okT x (ix4 b h f d) = 1#1) : ∃ r : ℝ, x (ix4 b h f d) = (r : EReal) := by
  revert hp
  pointwise [okT]
  simp only [absb_eq, absh_eq, ofBool_one, decide_eq_true_eq]
  exact abs_real f32_max_real

theorem okZ_at (x : FVec Ideal S8x18x96 .f32) (b : Fin 8) (h : Fin 18) (f : Fin 96) (hp : okZ x (ix3 b h f) = 1#1) : ∃ r : ℝ, x (ix3 b h f) = (r : EReal) := by
  revert hp
  pointwise [okZ]
  simp only [absb_eq, absh_eq, ofBool_one, decide_eq_true_eq]
  exact abs_real f32_max_real

theorem fn2 : (fn (F := Ideal) x0 x1 x2 x3 x4 x5 x6 x7 x8 x9 x10).2.2.1 = okV x2 := rfl
theorem fn3 : (fn (F := Ideal) x0 x1 x2 x3 x4 x5 x6 x7 x8 x9 x10).2.2.2.1 = okT x9 := rfl
theorem fn4 : (fn (F := Ideal) x0 x1 x2 x3 x4 x5 x6 x7 x8 x9 x10).2.2.2.2 = okZ x10 := rfl

theorem row_of (x : FVec Ideal S8x256x18x160 .bf16) (h : okRow (maxRow x) = fun _ => 1#1) (b : Fin 8) (k : Fin 18) (t : Fin 256) : Scalable (amax fun d : Fin 160 => x (ix4 b t k d)) :=
  maxRow_at x b t k ▸ okRow_at (maxRow x) b t k (congrFun h _)

/-- What the precondition gives. -/
theorem pre_gives (h : (fn (F := Ideal) x0 x1 x2 x3 x4 x5 x6 x7 x8 x9 x10).1 = (fun _ => 1#1) ∧ (fn (F := Ideal) x0 x1 x2 x3 x4 x5 x6 x7 x8 x9 x10).2.1 = (fun _ => 1#1)
      ∧ (fn (F := Ideal) x0 x1 x2 x3 x4 x5 x6 x7 x8 x9 x10).2.2.1 = (fun _ => 1#1) ∧ (fn (F := Ideal) x0 x1 x2 x3 x4 x5 x6 x7 x8 x9 x10).2.2.2.1 = (fun _ => 1#1)
      ∧ (fn (F := Ideal) x0 x1 x2 x3 x4 x5 x6 x7 x8 x9 x10).2.2.2.2 = (fun _ => 1#1)) :
    (∀ (b : Fin 8) (k : Fin 18) (t : Fin 256), Scalable (amax fun d : Fin 160 => x0 (ix4 b t k d))) ∧ (∀ (b : Fin 8) (k : Fin 18) (t : Fin 256), Scalable (amax fun d : Fin 160 => x1 (ix4 b t k d)))
      ∧ (∃ V : Fin 8 → Fin 256 → Fin 18 → Fin 160 → ℝ, ∀ b t k d, x2 (ix4 b t k d) = (V b t k d : EReal))
      ∧ (∃ T : Fin 8 → Fin 18 → Fin 96 → Fin 160 → ℝ, ∀ b k f d, x9 (ix4 b k f d) = (T b k f d : EReal))
      ∧ (∃ Z : Fin 8 → Fin 18 → Fin 96 → ℝ, ∀ b k f, x10 (ix3 b k f) = (Z b k f : EReal)) := by
  obtain ⟨h0, h1, h2, h3, h4⟩ := h
  rw [fn0] at h0
  rw [fn1] at h1
  rw [fn2] at h2
  rw [fn3] at h3
  rw [fn4] at h4
  refine ⟨row_of x0 h0, row_of x1 h1, ?_, ?_, ?_⟩
  · choose V hV using fun b t k d => okV_at x2 b t k d (congrFun h2 _)
    exact ⟨V, hV⟩
  · choose T hT using fun b k f d => okT_at x9 b k f d (congrFun h3 _)
    exact ⟨T, hT⟩
  · choose Z hZ using fun b k f => okZ_at x10 b k f (congrFun h4 _)
    exact ⟨Z, hZ⟩

end Hedgehog
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_in_range
public import proofs.«01_k».proof.Proof.KernVal
public import proofs.«01_k».proof.Proof.RefVal
public import proofs.«01_k».proof.Proof.Pre

@[expose] public section

set_option maxRecDepth 16384

noncomputable section

namespace Cert.Proof

open Idealize.ShloMosaic Idealize.ShloMosaic.TcCoe Hedgehog

/-- Arrays with equal entries are equal, at the shapes of the results. -/
theorem extY {x y : Cert.KernelIdeal.S8x18x160x256.Idx → EReal} (h : ∀ i j k l, x (ix4 i j k l) = y (ix4 i j k l)) : x = y := by
  funext i
  idx_vars i
  exact h _ _ _ _
theorem extS {x y : Cert.KernelIdeal.S8x18x160x96.Idx → EReal} (h : ∀ i j k l, x (ix4 i j k l) = y (ix4 i j k l)) : x = y := by
  funext i
  idx_vars i
  exact h _ _ _ _
theorem extZ {x y : Cert.KernelIdeal.S18x8x96.Idx → EReal} (h : ∀ i j k, x (ix3 i j k) = y (ix3 i j k)) : x = y := by
  funext i
  idx_vars i
  exact h _ _ _
theorem extR {x y : Cert.KernelIdeal.S18x8x256.Idx → EReal} (h : ∀ i j k, x (ix3 i j k) = y (ix3 i j k)) : x = y := by
  funext i
  idx_vars i
  exact h _ _ _

theorem Phi_congr {X X' W W' A A' B B'} (hX : X = X') (hW : W = W') (hA : A = A') (hB : B = B') : Phi X W A B = Phi X' W' A' B' := by
  subst hX hW hA hB
  rfl

/-- Of equal arguments in range, the kernel and the reference leave equal results. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  refine ⟨fun c => (Cert.KernelIdeal.Gen.dats m 0 c).arrAt 11 Cert.KernelIdeal.cfg0.N, fun c => (Cert.KernelIdeal.Gen.dats m 0 c).arrAt 12 Cert.KernelIdeal.cfg0.N, fun c => (Cert.KernelIdeal.Gen.dats m 0 c).arrAt 13 Cert.KernelIdeal.cfg0.N, fun c => (Cert.KernelIdeal.Gen.dats m 0 c).arrAt 14 Cert.KernelIdeal.cfg0.N, fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, Cert.KernelIdeal.Value.run_blocks m g, ?_⟩
  refine (θ_run Cert.ReferenceIdeal.defs _ _).mono ?_ (Cert.ReferenceIdeal.Value.run m' g')
  intro r hr c
  obtain ⟨h0, h1, h2, h3, h4, h5, h6, hkeep⟩ := hr c
  obtain ⟨e0, e1, e2, e3, e4, e5, e6, e7, e8, e9, e10⟩ := hargs c
  obtain ⟨hq, hk, ⟨V, hV⟩, ⟨T, hT⟩, ⟨Z, hZ⟩⟩ := pre_gives (hpre c)
  have eb0 : Cert.ReferenceIdeal.Stage.b0 m' c = Cert.KernelIdeal.Stage.a0 m c := e0
  have eb1 : Cert.ReferenceIdeal.Stage.b1 m' c = Cert.KernelIdeal.Stage.a1 m c := e1
  have eQ : Cert.ReferenceIdeal.Stage.RQ m' c = Cert.KernelIdeal.Stage.PQ m c := by
    funext b h t f
    exact congrFun (congrFun (congrFun (congrFun (Phi_congr e0 e3 e4 e7) b) h) t) f
  have eK : Cert.ReferenceIdeal.Stage.RK m' c = Cert.KernelIdeal.Stage.PK m c := by
    funext b h t f
    exact congrFun (congrFun (congrFun (congrFun (Phi_congr e1 e5 e6 e8) b) h) t) f
  have hV' : ∀ b t h d, Cert.ReferenceIdeal.Stage.b2 m' c (ix4 b t h d) = (V b t h d : EReal) := fun b t h d => (congrFun e2 _).trans (hV b t h d)
  have hT' : ∀ b h f d, Cert.ReferenceIdeal.Stage.b9 m' c (ix4 b h f d) = (T b h f d : EReal) := fun b h f d => (congrFun e9 _).trans (hT b h f d)
  have hZ' : ∀ b h f, Cert.ReferenceIdeal.Stage.b10 m' c (ix3 b h f) = (Z b h f : EReal) := fun b h f => (congrFun e10 _).trans (hZ b h f)
  refine ⟨(h0.trans (Cert.ReferenceIdeal.Read.val_main_v118_eq _)).trans (extY fun b h d t => ?_),
    (h1.trans (Cert.ReferenceIdeal.Read.val_main_v119_eq _)).trans (extS fun b h d f => ?_),
    (h2.trans (Cert.ReferenceIdeal.Read.val_main_v120_eq _)).trans (extZ fun h b f => ?_),
    (h3.trans (Cert.ReferenceIdeal.Read.val_main_v121_eq _)).trans (extY fun b h d t => ?_),
    (h4.trans (Cert.ReferenceIdeal.Read.val_main_v122_eq _)).trans (extR fun h b t => ?_),
    (h5.trans (Cert.ReferenceIdeal.Read.val_main_v123_eq _)).trans (extY fun b h d t => ?_),
    (h6.trans (Cert.ReferenceIdeal.Read.val_main_v124_eq _)).trans (extR fun h b t => ?_), hkeep⟩
  · refine (Cert.ReferenceIdeal.Stage.r118 m' c V hV' T hT' Z hZ' b h d t).trans ?_
    rw [eQ, eK]
    exact (Cert.KernelIdeal.Stage.y_at m c hq hk V hV T hT Z hZ b h d t).symm
  · refine (Cert.ReferenceIdeal.Stage.r119 m' c V hV' T hT' b h d f).trans ?_
    rw [eK]
    exact (Cert.KernelIdeal.Stage.sf_at m c hk V hV T hT b h d f).symm
  · refine (Cert.ReferenceIdeal.Stage.r120 m' c Z hZ' h b f).trans ?_
    rw [eK]
    exact (Cert.KernelIdeal.Stage.zf_at m c hk Z hZ b h f).symm
  · refine (Cert.ReferenceIdeal.Stage.r121 m' c b h d t).trans ?_
    rw [eb0]
    exact (Cert.KernelIdeal.Stage.qc_at m c hq b h d t).symm
  · refine (Cert.ReferenceIdeal.Stage.r122 m' c h b t).trans ?_
    rw [eb0]
    exact (Cert.KernelIdeal.Stage.qs_at m c hq b h t).symm
  · refine (Cert.ReferenceIdeal.Stage.r123 m' c b h d t).trans ?_
    rw [eb1]
    exact (Cert.KernelIdeal.Stage.kc_at m c hk b h d t).symm
  · refine (Cert.ReferenceIdeal.Stage.r124 m' c h b t).trans ?_
    rw [eb1]
    exact (Cert.KernelIdeal.Stage.ks_at m c hk b h t).symm

theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    IdealRules.named_const.statement Cert.KernelIdeal.κ "log2e" .f32 0x3FB8AA3B#32 (((Real.log 2)⁻¹ : ℝ) : EReal) rfl,
    algebraic⟩

end Cert.Proof
